-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S1x256 : Shape := ⟨2, ![1, 256]⟩
abbrev S8x1x256 : Shape := ⟨3, ![8, 1, 256]⟩
abbrev S8 : Shape := ⟨1, ![8]⟩
abbrev S2 : Shape := ⟨1, ![2]⟩
abbrev S_ : Shape := ⟨0, ![]⟩
abbrev S1 : Shape := ⟨1, ![1]⟩
abbrev S256 : Shape := ⟨1, ![256]⟩
abbrev S1x1x256 : Shape := ⟨3, ![1, 1, 256]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S8x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_67 : BitVec 32 := 0#32
  let v102 : BitVec 1 := Scalar.cmpi .eq v2 c0_i32_67
  let v103 : BitVec 32 := Scalar.extui v102
  let c0_i32_68 : BitVec 32 := 0#32
  let v104 : BitVec 1 := Scalar.cmpi .ne v103 c0_i32_68
  v104

def k0_dev8 : Nat :=
  let c0_i32_132 : BitVec 32 := 0#32
  let c1_i32_130 : BitVec 32 := 1#32
  let c1_i32_131 : BitVec 32 := 1#32
  let v186 : BitVec 32 := Scalar.muli c1_i32_130 c1_i32_131
  let v187 : BitVec 32 := Scalar.addi c0_i32_132 v186
  v187.toNat
def k0_dev9 : Nat :=
  let c0_i32_143 : BitVec 32 := 0#32
  let c2_i32_141 : BitVec 32 := 2#32
  let c1_i32_142 : BitVec 32 := 1#32
  let v196 : BitVec 32 := Scalar.muli c2_i32_141 c1_i32_142
  let v197 : BitVec 32 := Scalar.addi c0_i32_143 v196
  v197.toNat
def k0_dev10 : Nat :=
  let c0_i32_154 : BitVec 32 := 0#32
  let c3_i32_152 : BitVec 32 := 3#32
  let c1_i32_153 : BitVec 32 := 1#32
  let v206 : BitVec 32 := Scalar.muli c3_i32_152 c1_i32_153
  let v207 : BitVec 32 := Scalar.addi c0_i32_154 v206
  v207.toNat
def k0_dev11 : Nat :=
  let c0_i32_165 : BitVec 32 := 0#32
  let c4_i32_163 : BitVec 32 := 4#32
  let c1_i32_164 : BitVec 32 := 1#32
  let v216 : BitVec 32 := Scalar.muli c4_i32_163 c1_i32_164
  let v217 : BitVec 32 := Scalar.addi c0_i32_165 v216
  v217.toNat
def k0_dev12 : Nat :=
  let c0_i32_176 : BitVec 32 := 0#32
  let c5_i32_174 : BitVec 32 := 5#32
  let c1_i32_175 : BitVec 32 := 1#32
  let v226 : BitVec 32 := Scalar.muli c5_i32_174 c1_i32_175
  let v227 : BitVec 32 := Scalar.addi c0_i32_176 v226
  v227.toNat
def k0_dev13 : Nat :=
  let c0_i32_187 : BitVec 32 := 0#32
  let c6_i32_185 : BitVec 32 := 6#32
  let c1_i32_186 : BitVec 32 := 1#32
  let v236 : BitVec 32 := Scalar.muli c6_i32_185 c1_i32_186
  let v237 : BitVec 32 := Scalar.addi c0_i32_187 v236
  v237.toNat
def k0_dev14 : Nat :=
  let c0_i32_198 : BitVec 32 := 0#32
  let c7_i32_196 : BitVec 32 := 7#32
  let c1_i32_197 : BitVec 32 := 1#32
  let v246 : BitVec 32 := Scalar.muli c7_i32_196 c1_i32_197
  let v247 : BitVec 32 := Scalar.addi c0_i32_198 v246
  v247.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_69 : BitVec 32 := 1#32
  let v105 : BitVec 1 := Scalar.cmpi .eq v2 c1_i32_69
  let v106 : BitVec 32 := Scalar.extui v105
  let c0_i32_70 : BitVec 32 := 0#32
  let v107 : BitVec 1 := Scalar.cmpi .ne v106 c0_i32_70
  v107

def k0_dev15 : Nat :=
  let c0_i32_131 : BitVec 32 := 0#32
  let c0_i32_129 : BitVec 32 := 0#32
  let c1_i32_130 : BitVec 32 := 1#32
  let v186 : BitVec 32 := Scalar.muli c0_i32_129 c1_i32_130
  let v187 : BitVec 32 := Scalar.addi c0_i32_131 v186
  v187.toNat
def k0_dev16 : Nat :=
  let c0_i32_142 : BitVec 32 := 0#32
  let c2_i32_140 : BitVec 32 := 2#32
  let c1_i32_141 : BitVec 32 := 1#32
  let v196 : BitVec 32 := Scalar.muli c2_i32_140 c1_i32_141
  let v197 : BitVec 32 := Scalar.addi c0_i32_142 v196
  v197.toNat
def k0_dev17 : Nat :=
  let c0_i32_153 : BitVec 32 := 0#32
  let c3_i32_151 : BitVec 32 := 3#32
  let c1_i32_152 : BitVec 32 := 1#32
  let v206 : BitVec 32 := Scalar.muli c3_i32_151 c1_i32_152
  let v207 : BitVec 32 := Scalar.addi c0_i32_153 v206
  v207.toNat
def k0_dev18 : Nat :=
  let c0_i32_164 : BitVec 32 := 0#32
  let c4_i32_162 : BitVec 32 := 4#32
  let c1_i32_163 : BitVec 32 := 1#32
  let v216 : BitVec 32 := Scalar.muli c4_i32_162 c1_i32_163
  let v217 : BitVec 32 := Scalar.addi c0_i32_164 v216
  v217.toNat
def k0_dev19 : Nat :=
  let c0_i32_175 : BitVec 32 := 0#32
  let c5_i32_173 : BitVec 32 := 5#32
  let c1_i32_174 : BitVec 32 := 1#32
  let v226 : BitVec 32 := Scalar.muli c5_i32_173 c1_i32_174
  let v227 : BitVec 32 := Scalar.addi c0_i32_175 v226
  v227.toNat
def k0_dev20 : Nat :=
  let c0_i32_186 : BitVec 32 := 0#32
  let c6_i32_184 : BitVec 32 := 6#32
  let c1_i32_185 : BitVec 32 := 1#32
  let v236 : BitVec 32 := Scalar.muli c6_i32_184 c1_i32_185
  let v237 : BitVec 32 := Scalar.addi c0_i32_186 v236
  v237.toNat
def k0_dev21 : Nat :=
  let c0_i32_197 : BitVec 32 := 0#32
  let c7_i32_195 : BitVec 32 := 7#32
  let c1_i32_196 : BitVec 32 := 1#32
  let v246 : BitVec 32 := Scalar.muli c7_i32_195 c1_i32_196
  let v247 : BitVec 32 := Scalar.addi c0_i32_197 v246
  v247.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_71 : BitVec 32 := 2#32
  let v108 : BitVec 1 := Scalar.cmpi .eq v2 c2_i32_71
  let v109 : BitVec 32 := Scalar.extui v108
  let c0_i32_72 : BitVec 32 := 0#32
  let v110 : BitVec 1 := Scalar.cmpi .ne v109 c0_i32_72
  v110

def k0_dev22 : Nat :=
  let c0_i32_131 : BitVec 32 := 0#32
  let c0_i32_129 : BitVec 32 := 0#32
  let c1_i32_130 : BitVec 32 := 1#32
  let v186 : BitVec 32 := Scalar.muli c0_i32_129 c1_i32_130
  let v187 : BitVec 32 := Scalar.addi c0_i32_131 v186
  v187.toNat
def k0_dev23 : Nat :=
  let c0_i32_142 : BitVec 32 := 0#32
  let c1_i32_140 : BitVec 32 := 1#32
  let c1_i32_141 : BitVec 32 := 1#32
  let v196 : BitVec 32 := Scalar.muli c1_i32_140 c1_i32_141
  let v197 : BitVec 32 := Scalar.addi c0_i32_142 v196
  v197.toNat
def k0_dev24 : Nat :=
  let c0_i32_153 : BitVec 32 := 0#32
  let c3_i32_151 : BitVec 32 := 3#32
  let c1_i32_152 : BitVec 32 := 1#32
  let v206 : BitVec 32 := Scalar.muli c3_i32_151 c1_i32_152
  let v207 : BitVec 32 := Scalar.addi c0_i32_153 v206
  v207.toNat
def k0_dev25 : Nat :=
  let c0_i32_164 : BitVec 32 := 0#32
  let c4_i32_162 : BitVec 32 := 4#32
  let c1_i32_163 : BitVec 32 := 1#32
  let v216 : BitVec 32 := Scalar.muli c4_i32_162 c1_i32_163
  let v217 : BitVec 32 := Scalar.addi c0_i32_164 v216
  v217.toNat
def k0_dev26 : Nat :=
  let c0_i32_175 : BitVec 32 := 0#32
  let c5_i32_173 : BitVec 32 := 5#32
  let c1_i32_174 : BitVec 32 := 1#32
  let v226 : BitVec 32 := Scalar.muli c5_i32_173 c1_i32_174
  let v227 : BitVec 32 := Scalar.addi c0_i32_175 v226
  v227.toNat
def k0_dev27 : Nat :=
  let c0_i32_186 : BitVec 32 := 0#32
  let c6_i32_184 : BitVec 32 := 6#32
  let c1_i32_185 : BitVec 32 := 1#32
  let v236 : BitVec 32 := Scalar.muli c6_i32_184 c1_i32_185
  let v237 : BitVec 32 := Scalar.addi c0_i32_186 v236
  v237.toNat
def k0_dev28 : Nat :=
  let c0_i32_197 : BitVec 32 := 0#32
  let c7_i32_195 : BitVec 32 := 7#32
  let c1_i32_196 : BitVec 32 := 1#32
  let v246 : BitVec 32 := Scalar.muli c7_i32_195 c1_i32_196
  let v247 : BitVec 32 := Scalar.addi c0_i32_197 v246
  v247.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_73 : BitVec 32 := 3#32
  let v111 : BitVec 1 := Scalar.cmpi .eq v2 c3_i32_73
  let v112 : BitVec 32 := Scalar.extui v111
  let c0_i32_74 : BitVec 32 := 0#32
  let v113 : BitVec 1 := Scalar.cmpi .ne v112 c0_i32_74
  v113

def k0_dev29 : Nat :=
  let c0_i32_131 : BitVec 32 := 0#32
  let c0_i32_129 : BitVec 32 := 0#32
  let c1_i32_130 : BitVec 32 := 1#32
  let v186 : BitVec 32 := Scalar.muli c0_i32_129 c1_i32_130
  let v187 : BitVec 32 := Scalar.addi c0_i32_131 v186
  v187.toNat
def k0_dev30 : Nat :=
  let c0_i32_142 : BitVec 32 := 0#32
  let c1_i32_140 : BitVec 32 := 1#32
  let c1_i32_141 : BitVec 32 := 1#32
  let v196 : BitVec 32 := Scalar.muli c1_i32_140 c1_i32_141
  let v197 : BitVec 32 := Scalar.addi c0_i32_142 v196
  v197.toNat
def k0_dev31 : Nat :=
  let c0_i32_153 : BitVec 32 := 0#32
  let c2_i32_151 : BitVec 32 := 2#32
  let c1_i32_152 : BitVec 32 := 1#32
  let v206 : BitVec 32 := Scalar.muli c2_i32_151 c1_i32_152
  let v207 : BitVec 32 := Scalar.addi c0_i32_153 v206
  v207.toNat
def k0_dev32 : Nat :=
  let c0_i32_164 : BitVec 32 := 0#32
  let c4_i32_162 : BitVec 32 := 4#32
  let c1_i32_163 : BitVec 32 := 1#32
  let v216 : BitVec 32 := Scalar.muli c4_i32_162 c1_i32_163
  let v217 : BitVec 32 := Scalar.addi c0_i32_164 v216
  v217.toNat
def k0_dev33 : Nat :=
  let c0_i32_175 : BitVec 32 := 0#32
  let c5_i32_173 : BitVec 32 := 5#32
  let c1_i32_174 : BitVec 32 := 1#32
  let v226 : BitVec 32 := Scalar.muli c5_i32_173 c1_i32_174
  let v227 : BitVec 32 := Scalar.addi c0_i32_175 v226
  v227.toNat
def k0_dev34 : Nat :=
  let c0_i32_186 : BitVec 32 := 0#32
  let c6_i32_184 : BitVec 32 := 6#32
  let c1_i32_185 : BitVec 32 := 1#32
  let v236 : BitVec 32 := Scalar.muli c6_i32_184 c1_i32_185
  let v237 : BitVec 32 := Scalar.addi c0_i32_186 v236
  v237.toNat
def k0_dev35 : Nat :=
  let c0_i32_197 : BitVec 32 := 0#32
  let c7_i32_195 : BitVec 32 := 7#32
  let c1_i32_196 : BitVec 32 := 1#32
  let v246 : BitVec 32 := Scalar.muli c7_i32_195 c1_i32_196
  let v247 : BitVec 32 := Scalar.addi c0_i32_197 v246
  v247.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_75 : BitVec 32 := 4#32
  let v114 : BitVec 1 := Scalar.cmpi .eq v2 c4_i32_75
  let v115 : BitVec 32 := Scalar.extui v114
  let c0_i32_76 : BitVec 32 := 0#32
  let v116 : BitVec 1 := Scalar.cmpi .ne v115 c0_i32_76
  v116

def k0_dev36 : Nat :=
  let c0_i32_131 : BitVec 32 := 0#32
  let c0_i32_129 : BitVec 32 := 0#32
  let c1_i32_130 : BitVec 32 := 1#32
  let v186 : BitVec 32 := Scalar.muli c0_i32_129 c1_i32_130
  let v187 : BitVec 32 := Scalar.addi c0_i32_131 v186
  v187.toNat
def k0_dev37 : Nat :=
  let c0_i32_142 : BitVec 32 := 0#32
  let c1_i32_140 : BitVec 32 := 1#32
  let c1_i32_141 : BitVec 32 := 1#32
  let v196 : BitVec 32 := Scalar.muli c1_i32_140 c1_i32_141
  let v197 : BitVec 32 := Scalar.addi c0_i32_142 v196
  v197.toNat
def k0_dev38 : Nat :=
  let c0_i32_153 : BitVec 32 := 0#32
  let c2_i32_151 : BitVec 32 := 2#32
  let c1_i32_152 : BitVec 32 := 1#32
  let v206 : BitVec 32 := Scalar.muli c2_i32_151 c1_i32_152
  let v207 : BitVec 32 := Scalar.addi c0_i32_153 v206
  v207.toNat
def k0_dev39 : Nat :=
  let c0_i32_164 : BitVec 32 := 0#32
  let c3_i32_162 : BitVec 32 := 3#32
  let c1_i32_163 : BitVec 32 := 1#32
  let v216 : BitVec 32 := Scalar.muli c3_i32_162 c1_i32_163
  let v217 : BitVec 32 := Scalar.addi c0_i32_164 v216
  v217.toNat
def k0_dev40 : Nat :=
  let c0_i32_175 : BitVec 32 := 0#32
  let c5_i32_173 : BitVec 32 := 5#32
  let c1_i32_174 : BitVec 32 := 1#32
  let v226 : BitVec 32 := Scalar.muli c5_i32_173 c1_i32_174
  let v227 : BitVec 32 := Scalar.addi c0_i32_175 v226
  v227.toNat
def k0_dev41 : Nat :=
  let c0_i32_186 : BitVec 32 := 0#32
  let c6_i32_184 : BitVec 32 := 6#32
  let c1_i32_185 : BitVec 32 := 1#32
  let v236 : BitVec 32 := Scalar.muli c6_i32_184 c1_i32_185
  let v237 : BitVec 32 := Scalar.addi c0_i32_186 v236
  v237.toNat
def k0_dev42 : Nat :=
  let c0_i32_197 : BitVec 32 := 0#32
  let c7_i32_195 : BitVec 32 := 7#32
  let c1_i32_196 : BitVec 32 := 1#32
  let v246 : BitVec 32 := Scalar.muli c7_i32_195 c1_i32_196
  let v247 : BitVec 32 := Scalar.addi c0_i32_197 v246
  v247.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_77 : BitVec 32 := 5#32
  let v117 : BitVec 1 := Scalar.cmpi .eq v2 c5_i32_77
  let v118 : BitVec 32 := Scalar.extui v117
  let c0_i32_78 : BitVec 32 := 0#32
  let v119 : BitVec 1 := Scalar.cmpi .ne v118 c0_i32_78
  v119

def k0_dev43 : Nat :=
  let c0_i32_131 : BitVec 32 := 0#32
  let c0_i32_129 : BitVec 32 := 0#32
  let c1_i32_130 : BitVec 32 := 1#32
  let v186 : BitVec 32 := Scalar.muli c0_i32_129 c1_i32_130
  let v187 : BitVec 32 := Scalar.addi c0_i32_131 v186
  v187.toNat
def k0_dev44 : Nat :=
  let c0_i32_142 : BitVec 32 := 0#32
  let c1_i32_140 : BitVec 32 := 1#32
  let c1_i32_141 : BitVec 32 := 1#32
  let v196 : BitVec 32 := Scalar.muli c1_i32_140 c1_i32_141
  let v197 : BitVec 32 := Scalar.addi c0_i32_142 v196
  v197.toNat
def k0_dev45 : Nat :=
  let c0_i32_153 : BitVec 32 := 0#32
  let c2_i32_151 : BitVec 32 := 2#32
  let c1_i32_152 : BitVec 32 := 1#32
  let v206 : BitVec 32 := Scalar.muli c2_i32_151 c1_i32_152
  let v207 : BitVec 32 := Scalar.addi c0_i32_153 v206
  v207.toNat
def k0_dev46 : Nat :=
  let c0_i32_164 : BitVec 32 := 0#32
  let c3_i32_162 : BitVec 32 := 3#32
  let c1_i32_163 : BitVec 32 := 1#32
  let v216 : BitVec 32 := Scalar.muli c3_i32_162 c1_i32_163
  let v217 : BitVec 32 := Scalar.addi c0_i32_164 v216
  v217.toNat
def k0_dev47 : Nat :=
  let c0_i32_175 : BitVec 32 := 0#32
  let c4_i32_173 : BitVec 32 := 4#32
  let c1_i32_174 : BitVec 32 := 1#32
  let v226 : BitVec 32 := Scalar.muli c4_i32_173 c1_i32_174
  let v227 : BitVec 32 := Scalar.addi c0_i32_175 v226
  v227.toNat
def k0_dev48 : Nat :=
  let c0_i32_186 : BitVec 32 := 0#32
  let c6_i32_184 : BitVec 32 := 6#32
  let c1_i32_185 : BitVec 32 := 1#32
  let v236 : BitVec 32 := Scalar.muli c6_i32_184 c1_i32_185
  let v237 : BitVec 32 := Scalar.addi c0_i32_186 v236
  v237.toNat
def k0_dev49 : Nat :=
  let c0_i32_197 : BitVec 32 := 0#32
  let c7_i32_195 : BitVec 32 := 7#32
  let c1_i32_196 : BitVec 32 := 1#32
  let v246 : BitVec 32 := Scalar.muli c7_i32_195 c1_i32_196
  let v247 : BitVec 32 := Scalar.addi c0_i32_197 v246
  v247.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_79 : BitVec 32 := 6#32
  let v120 : BitVec 1 := Scalar.cmpi .eq v2 c6_i32_79
  let v121 : BitVec 32 := Scalar.extui v120
  let c0_i32_80 : BitVec 32 := 0#32
  let v122 : BitVec 1 := Scalar.cmpi .ne v121 c0_i32_80
  v122

def k0_dev50 : Nat :=
  let c0_i32_131 : BitVec 32 := 0#32
  let c0_i32_129 : BitVec 32 := 0#32
  let c1_i32_130 : BitVec 32 := 1#32
  let v186 : BitVec 32 := Scalar.muli c0_i32_129 c1_i32_130
  let v187 : BitVec 32 := Scalar.addi c0_i32_131 v186
  v187.toNat
def k0_dev51 : Nat :=
  let c0_i32_142 : BitVec 32 := 0#32
  let c1_i32_140 : BitVec 32 := 1#32
  let c1_i32_141 : BitVec 32 := 1#32
  let v196 : BitVec 32 := Scalar.muli c1_i32_140 c1_i32_141
  let v197 : BitVec 32 := Scalar.addi c0_i32_142 v196
  v197.toNat
def k0_dev52 : Nat :=
  let c0_i32_153 : BitVec 32 := 0#32
  let c2_i32_151 : BitVec 32 := 2#32
  let c1_i32_152 : BitVec 32 := 1#32
  let v206 : BitVec 32 := Scalar.muli c2_i32_151 c1_i32_152
  let v207 : BitVec 32 := Scalar.addi c0_i32_153 v206
  v207.toNat
def k0_dev53 : Nat :=
  let c0_i32_164 : BitVec 32 := 0#32
  let c3_i32_162 : BitVec 32 := 3#32
  let c1_i32_163 : BitVec 32 := 1#32
  let v216 : BitVec 32 := Scalar.muli c3_i32_162 c1_i32_163
  let v217 : BitVec 32 := Scalar.addi c0_i32_164 v216
  v217.toNat
def k0_dev54 : Nat :=
  let c0_i32_175 : BitVec 32 := 0#32
  let c4_i32_173 : BitVec 32 := 4#32
  let c1_i32_174 : BitVec 32 := 1#32
  let v226 : BitVec 32 := Scalar.muli c4_i32_173 c1_i32_174
  let v227 : BitVec 32 := Scalar.addi c0_i32_175 v226
  v227.toNat
def k0_dev55 : Nat :=
  let c0_i32_186 : BitVec 32 := 0#32
  let c5_i32_184 : BitVec 32 := 5#32
  let c1_i32_185 : BitVec 32 := 1#32
  let v236 : BitVec 32 := Scalar.muli c5_i32_184 c1_i32_185
  let v237 : BitVec 32 := Scalar.addi c0_i32_186 v236
  v237.toNat
def k0_dev56 : Nat :=
  let c0_i32_197 : BitVec 32 := 0#32
  let c7_i32_195 : BitVec 32 := 7#32
  let c1_i32_196 : BitVec 32 := 1#32
  let v246 : BitVec 32 := Scalar.muli c7_i32_195 c1_i32_196
  let v247 : BitVec 32 := Scalar.addi c0_i32_197 v246
  v247.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_81 : BitVec 32 := 7#32
  let v123 : BitVec 1 := Scalar.cmpi .eq v2 c7_i32_81
  let v124 : BitVec 32 := Scalar.extui v123
  let c0_i32_82 : BitVec 32 := 0#32
  let v125 : BitVec 1 := Scalar.cmpi .ne v124 c0_i32_82
  v125

def k0_dev57 : Nat :=
  let c0_i32_131 : BitVec 32 := 0#32
  let c0_i32_129 : BitVec 32 := 0#32
  let c1_i32_130 : BitVec 32 := 1#32
  let v186 : BitVec 32 := Scalar.muli c0_i32_129 c1_i32_130
  let v187 : BitVec 32 := Scalar.addi c0_i32_131 v186
  v187.toNat
def k0_dev58 : Nat :=
  let c0_i32_142 : BitVec 32 := 0#32
  let c1_i32_140 : BitVec 32 := 1#32
  let c1_i32_141 : BitVec 32 := 1#32
  let v196 : BitVec 32 := Scalar.muli c1_i32_140 c1_i32_141
  let v197 : BitVec 32 := Scalar.addi c0_i32_142 v196
  v197.toNat
def k0_dev59 : Nat :=
  let c0_i32_153 : BitVec 32 := 0#32
  let c2_i32_151 : BitVec 32 := 2#32
  let c1_i32_152 : BitVec 32 := 1#32
  let v206 : BitVec 32 := Scalar.muli c2_i32_151 c1_i32_152
  let v207 : BitVec 32 := Scalar.addi c0_i32_153 v206
  v207.toNat
def k0_dev60 : Nat :=
  let c0_i32_164 : BitVec 32 := 0#32
  let c3_i32_162 : BitVec 32 := 3#32
  let c1_i32_163 : BitVec 32 := 1#32
  let v216 : BitVec 32 := Scalar.muli c3_i32_162 c1_i32_163
  let v217 : BitVec 32 := Scalar.addi c0_i32_164 v216
  v217.toNat
def k0_dev61 : Nat :=
  let c0_i32_175 : BitVec 32 := 0#32
  let c4_i32_173 : BitVec 32 := 4#32
  let c1_i32_174 : BitVec 32 := 1#32
  let v226 : BitVec 32 := Scalar.muli c4_i32_173 c1_i32_174
  let v227 : BitVec 32 := Scalar.addi c0_i32_175 v226
  v227.toNat
def k0_dev62 : Nat :=
  let c0_i32_186 : BitVec 32 := 0#32
  let c5_i32_184 : BitVec 32 := 5#32
  let c1_i32_185 : BitVec 32 := 1#32
  let v236 : BitVec 32 := Scalar.muli c5_i32_184 c1_i32_185
  let v237 : BitVec 32 := Scalar.addi c0_i32_186 v236
  v237.toNat
def k0_dev63 : Nat :=
  let c0_i32_197 : BitVec 32 := 0#32
  let c6_i32_195 : BitVec 32 := 6#32
  let c1_i32_196 : BitVec 32 := 1#32
  let v246 : BitVec 32 := Scalar.muli c6_i32_195 c1_i32_196
  let v247 : BitVec 32 := Scalar.addi c0_i32_197 v246
  v247.toNat
-- ==== ReferenceIdeal.lean ====
abbrev S4096x256 : Shape := ⟨2, ![4096, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S_, .f32⟩
  | .hbm, ⟨2, _⟩ => ⟨S256, .f32⟩
  | .hbm, ⟨3, _⟩ => ⟨S1x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Prog.lean ====
/-
# The kernel's body, written with lists

The printed body repeats one piece of text per device: seven signals, then for each place of the mesh a branch with
seven sends, a branch with a receive wait and a branch with a send wait. Here the same program is written with lists
over the mesh (`prog`), and shown to be the printed one (`body_eq`), so that each kind of step is proved once.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Kit

@[expose] public section

noncomputable section

namespace Cert.KernelIdeal.Max

open Cert.KernelIdeal Cert.KernelIdeal.Gen
open Idealize.ShloMosaic Idealize.ShloMosaic.TcCoe
open Idealize.SL Idealize.SL.Sem

variable {F : FTy → Type} [FloatOps F]

/-! ## The memrefs and semaphores -/

/-- The device's block of `x` and its result, in the large memory; -/
abbrev xH : Memref sig .tc .hbm S512x256 .f32 := Memref.whole main_arg0
abbrev oH : Memref sig .tc .hbm S1x256 .f32 := Memref.whole main_v1
/-- its working copies of both, and the buffer of the eight partial maxima, one row per device. -/
abbrev xV : Memref sig .tc .vmem S512x256 .f32 := Memref.whole cc0_scratch0
abbrev oV : Memref sig .tc .vmem S1x256 .f32 := Memref.whole cc0_scratch1
abbrev cM : Memref sig .tc .vmem S8x1x256 .f32 := Memref.whole cc0_scratch2

theorem row_inb (s : Fin 8) : ∀ a : Fin 3, (![s.val, 0, 0] : Fin 3 → Nat) a + S1x1x256.size a ≤ S8x1x256.size a := by
  revert s; decide
/-- Row `s` of that buffer as a rectangle, -/
abbrev rowR (s : Fin 8) : Rect S8x1x256 := Rect.unit (s := S8x1x256) ![s.val, 0, 0] S1x1x256.size (row_inb s)
/-- and as the memref the transfers name. -/
abbrev rowM (s : Fin 8) : Memref sig .tc .vmem S1x256 .f32 :=
  (cM.slice (rowR s) (fun _ => rfl)).squeeze S1x256 squeezes_S1x1x256_S1x256

/-- The runtime's barrier semaphore. -/
abbrev barS : Sem sig := (SemArray.scalar (sig.barrier 0 rfl) : Sems sig S_).sem
theorem sem8_inb (d : Fin 8) : ∀ a : Fin 1, (![d.val] : Fin 1 → Nat) a + S1.size a ≤ S8.size a := by revert d; decide
theorem sem2_inb (d : Fin 2) : ∀ a : Fin 1, (![d.val] : Fin 1 → Nat) a + S1.size a ≤ S2.size a := by revert d; decide
/-- The send semaphore of destination `d`, the receive semaphore of source `s`, the two local copies' semaphores. -/
abbrev sendS (d : Fin 8) : DmaSem sig := ((cc0_scratch3.slice (Rect.unit (s := S8) ![d.val] S1.size (sem8_inb d))).squeeze S_ squeezes_S1_S_).sem
abbrev recvS (s : Fin 8) : DmaSem sig := ((cc0_scratch4.slice (Rect.unit (s := S8) ![s.val] S1.size (sem8_inb s))).squeeze S_ squeezes_S1_S_).sem
abbrev copyS (i : Fin 2) : DmaSem sig := ((cc0_scratch5.slice (Rect.unit (s := S2) ![i.val] S1.size (sem2_inb i))).squeeze S_ squeezes_S1_S_).sem

/-! ## The program -/

/-- The type of a device's programs. -/
abbrev P (F : FTy → Type) [FloatOps F] : Type 1 := Prog (TpuEff nD τ sig (Elt F) Λ₀ .tc) PUnit

/-- A step for each place of the list, then `r`. -/
def stepsThen (f : Fin 8 → P F → P F) : List (Fin 8) → P F → P F
  | [], r => r
  | s :: ss, r => f s (stepsThen f ss r)

/-- One signal to each device of the list. -/
def signals : List (Dev nD) → P F → P F
  | [], r => r
  | d :: ds, r => .op (.semSignal (Dev.tc d) barS 1) fun _ => signals ds r

/-- The devices a device signals, in the printed order. -/
abbrev sigDevs (c : Dev nD) : List (Dev nD) :=
  [⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]

/-- The other devices, in the printed order. -/
def peers : Fin 8 → List (Fin 8) :=
  ![[1, 2, 3, 4, 5, 6, 7], [0, 2, 3, 4, 5, 6, 7], [0, 1, 3, 4, 5, 6, 7], [0, 1, 2, 4, 5, 6, 7],
    [0, 1, 2, 3, 5, 6, 7], [0, 1, 2, 3, 4, 6, 7], [0, 1, 2, 3, 4, 5, 7], [0, 1, 2, 3, 4, 5, 6]]

/-- Row `s` sent to row `s` of each device of the list. -/
def sends (s : Fin 8) : List (Fin 8) → P F → P F
  | [], r => r
  | d :: ds, r => .op (.enqueueDma (rowM s) (.remote (Dev.tc (d : Dev nD)) (rowM s) (.dma (sendS d))) (.dma (recvS s))
      ((View.wordExact_bits rfl).reshape _ _) ((View.wordExact_bits rfl).reshape _ _) ⟨⟨rfl, Or.inl rfl⟩, trivial⟩) fun _ => sends s ds r

/-- The device's place, as the kernel computes it; whether a place is `k`, and whether it is not. -/
abbrev place (c : Dev nD) : BitVec 32 := Scalar.remsi (Scalar.divsi (Dev.word c) 1#32) 8#32
def isAt (k : Fin 8) (w : BitVec 32) : BitVec 1 := Scalar.cmpi .ne (Scalar.extui (Scalar.cmpi .eq w (BitVec.ofNat 32 k.val)) : BitVec 32) 0#32
def notAt (k : Fin 8) (w : BitVec 32) : BitVec 1 := Scalar.cmpi .ne (Scalar.extui (Scalar.cmpi .ne w (BitVec.ofNat 32 k.val)) : BitVec 32) 0#32

/-- The branch of place `s`: the partial maximum `v` stored to row `s`, which is then sent to every other device; then `r`. -/
def sendAt (c : Dev nD) (v : FVec F S1x256 .f32) (s : Fin 8) (r : P F) : P F :=
  if h : isAt s (place c) = 1#1 then
    .op (.load cM (rowR s).toLoadRect (View.loadsAt_vmem h_S1x1x256)) fun _ =>
    .op (.store cM (rowR s) (k0_pay1 v) Finset.univ (View.stores_vmem_bits_univ h_S1x1x256 rfl) (.inl rfl)) fun _ =>
    sends s (peers s) r
  else r

/-- The wait for row `s`, unless `s` is the device's own place; then `r`. -/
def recvAt (w : BitVec 32) (s : Fin 8) (r : P F) : P F :=
  if h : notAt s w = 1#1 then
    .op (.waitDma2 (recvS s) (rowM s) (rowM s) ((View.wordExact_bits rfl).reshape _ _) ((View.wordExact_bits rfl).reshape _ _)) fun _ => r
  else r

/-- The wait for the send to `d`, unless `d` is the device's own place (any row names the amount); then `r`. -/
def sentAt (w : BitVec 32) (d : Fin 8) (r : P F) : P F :=
  if h : notAt d w = 1#1 then
    .op (.waitDma2 (sendS d) (rowM 0) (rowM 0) ((View.wordExact_bits rfl).reshape _ _) ((View.wordExact_bits rfl).reshape _ _)) fun _ => r
  else r

abbrev allX : Rect S512x256 := Rect.unit (s := S512x256) ![0, 0] S512x256.size inb_S512x256_S512x256_0_0
abbrev allO : Rect S1x256 := Rect.unit (s := S1x256) ![0, 0] S1x256.size inb_S1x256_S1x256_0_0
abbrev allC : Rect S8x1x256 := Rect.unit (s := S8x1x256) ![0, 0, 0] S8x1x256.size inb_S8x1x256_S8x1x256_0_0_0

/-- All places, in order. -/
abbrev places : List (Fin 8) := [0, 1, 2, 3, 4, 5, 6, 7]

/-- The first part: the signals, and the block of `x` started on its way into the working copy; then `r`. -/
def progIn (c : Dev nD) (r : P F) : P F :=
  signals (sigDevs c) <| .op (.enqueueDma xH (.here xV) (.dma (copyS 0)) (Memref.isWhole_whole _).wordExact (Memref.isWhole_whole _).wordExact ⟨Or.inl rfl, trivial⟩) fun _ => r

/-- The second: the block waited for and loaded, the barrier waited for, and the sends. -/
def progSend (c : Dev nD) : P F :=
  .op (.waitDma2 (copyS 0) xH xV (Memref.isWhole_whole _).wordExact (Memref.isWhole_whole _).wordExact) fun _ =>
  .op (.load xV allX.toLoadRect (View.loadsAt_vmem h_S512x256)) fun v =>
  .op (.semWait barS 7) fun _ =>
  stepsThen (sendAt c (k0_pay9 v)) places (.ret ⟨⟩)

/-- The third: the rows waited for, loaded, and their maximum stored. -/
def progRecv (w : BitVec 32) : P F :=
  stepsThen (recvAt w) places <|
  .op (.load cM allC.toLoadRect (View.loadsAt_vmem h_S8x1x256)) fun v =>
  .op (.load oV allO.toLoadRect (View.loadsAt_vmem h_S1x256)) fun _ =>
  .op (.store oV allO (k0_pay10 v) Finset.univ (View.stores_vmem_bits_univ h_S1x256 rfl) (.inl rfl)) fun _ => .ret ⟨⟩

/-- The last: the result started on its way out, the sends waited for, and the result. -/
def progOut (w : BitVec 32) : P F :=
  .op (.enqueueDma oV (.here oH) (.dma (copyS 1)) (Memref.isWhole_whole _).wordExact (Memref.isWhole_whole _).wordExact ⟨Or.inl rfl, trivial⟩) fun _ =>
  stepsThen (sentAt w) places (.ret ⟨⟩)

/-- The body up to the last wait, on device `c`, -/
def progOn (c : Dev nD) : P F :=
  progIn c <| (progSend c).bind fun _ => (progRecv (place c)).bind fun _ => progOut (place c)

/-- and the body. -/
def prog : P F :=
  Prog.bind (.op .deviceId progOn) fun _ =>
  .op (.waitDma2 (copyS 1) oV oH (Memref.isWhole_whole _).wordExact (Memref.isWhole_whole _).wordExact) fun _ => .ret ⟨⟩

/-! ## It is the printed body

Both sides unfold to the same text; the branches are compared one at a time, so that what follows a branch is looked at
once. -/

theorem step_eq {f : P F → P F} {p r r' : P F} (h : p = f r) (h' : r = r') : p = f r' := h' ▸ h

set_option maxHeartbeats 0 in
set_option maxRecDepth 65536 in
theorem part20_eq (c : Dev nD) :
    k0_part20 (F := F) xH (Memref.isWhole_whole _) oH (Memref.isWhole_whole _) xV (Memref.isWhole_whole _) oV (Memref.isWhole_whole _) cM (Memref.isWhole_whole _) cc0_scratch3 cc0_scratch4 cc0_scratch5 c (place c)
      (SemArray.scalar (sig.barrier 0 rfl)) = progSend c := by
  rewrite [k0_part20_eq_skeleton]; unfold k0_part20_skel
  refine congrArg (Prog.op _) (funext fun _ => ?_)
  refine congrArg (Prog.op _) (funext fun v => ?_)
  refine congrArg (Prog.op _) (funext fun _ => ?_)
  refine step_eq (f := sendAt c (k0_pay9 v) 0) rfl ?_
  refine step_eq (f := sendAt c (k0_pay9 v) 1) rfl ?_
  refine step_eq (f := sendAt c (k0_pay9 v) 2) rfl ?_
  refine step_eq (f := sendAt c (k0_pay9 v) 3) rfl ?_
  refine step_eq (f := sendAt c (k0_pay9 v) 4) rfl ?_
  refine step_eq (f := sendAt c (k0_pay9 v) 5) rfl ?_
  refine step_eq (f := sendAt c (k0_pay9 v) 6) rfl ?_
  refine step_eq (f := sendAt c (k0_pay9 v) 7) rfl ?_
  rfl

set_option maxHeartbeats 0 in
set_option maxRecDepth 65536 in
theorem part21_eq (w : BitVec 32) :
    k0_part21 (F := F) xH (Memref.isWhole_whole _) oH (Memref.isWhole_whole _) xV (Memref.isWhole_whole _) oV (Memref.isWhole_whole _) cM (Memref.isWhole_whole _) cc0_scratch3 cc0_scratch4 cc0_scratch5 w = progRecv w := by
  rewrite [k0_part21_eq_skeleton]; unfold k0_part21_skel
  refine step_eq (f := recvAt w 0) rfl ?_
  refine step_eq (f := recvAt w 1) rfl ?_
  refine step_eq (f := recvAt w 2) rfl ?_
  refine step_eq (f := recvAt w 3) rfl ?_
  refine step_eq (f := recvAt w 4) rfl ?_
  refine step_eq (f := recvAt w 5) rfl ?_
  refine step_eq (f := recvAt w 6) rfl ?_
  refine step_eq (f := recvAt w 7) rfl ?_
  rfl

attribute [local irreducible] k0_part20 k0_part21 in
set_option maxHeartbeats 0 in
set_option maxRecDepth 65536 in
theorem part22_eq :
    k0_part22 (F := F) xH (Memref.isWhole_whole _) oH (Memref.isWhole_whole _) xV (Memref.isWhole_whole _) oV (Memref.isWhole_whole _) cM (Memref.isWhole_whole _) cc0_scratch3 cc0_scratch4 cc0_scratch5 = .op .deviceId progOn := by
  rewrite [k0_part22_eq_skeleton]; unfold k0_part22_skel
  refine congrArg (Prog.op _) (funext fun c => ?_)
  refine step_eq (f := progIn c) (r := Prog.bind (k0_part20 xH (Memref.isWhole_whole _) oH (Memref.isWhole_whole _) xV (Memref.isWhole_whole _) oV (Memref.isWhole_whole _) cM (Memref.isWhole_whole _) cc0_scratch3 cc0_scratch4 cc0_scratch5 c (place c)
    (SemArray.scalar (sig.barrier 0 rfl))) fun _ => Prog.bind (k0_part21 xH (Memref.isWhole_whole _) oH (Memref.isWhole_whole _) xV (Memref.isWhole_whole _) oV (Memref.isWhole_whole _) cM (Memref.isWhole_whole _) cc0_scratch3 cc0_scratch4 cc0_scratch5 (place c)) fun _ => _) rfl ?_
  refine (congrArg (Prog.bind · _) (part20_eq c)).trans (congrArg (Prog.bind _) (funext fun _ => ?_))
  refine (congrArg (Prog.bind · _) (part21_eq (place c))).trans (congrArg (Prog.bind _) (funext fun _ => ?_))
  refine congrArg (Prog.op _) (funext fun _ => ?_)
  delta place
  generalize Scalar.remsi (Scalar.divsi (Dev.word c) 1#32) 8#32 = w
  refine step_eq (f := sentAt w 0) rfl ?_
  refine step_eq (f := sentAt w 1) rfl ?_
  refine step_eq (f := sentAt w 2) rfl ?_
  refine step_eq (f := sentAt w 3) rfl ?_
  refine step_eq (f := sentAt w 4) rfl ?_
  refine step_eq (f := sentAt w 5) rfl ?_
  refine step_eq (f := sentAt w 6) rfl ?_
  refine step_eq (f := sentAt w 7) rfl ?_
  rfl

set_option maxRecDepth 65536 in
theorem body_eq (t : Fin cfg0.N) : bodyAt0 (F := F) t = prog := by
  unfold bodyAt0
  rewrite [cc0_body_eq_skeleton]; unfold cc0_body_skel
  exact (congrArg (Prog.bind · _) part22_eq).trans rfl

end Cert.KernelIdeal.Max

end
-- ==== Proof.Ideal.Rows.lean ====
/-
# Contents, and the buffer of partial maxima row by row

What every buffer holds at the end of the run is a function of the launch memory: device `k`'s row is the maximum of its
own block, the same on every device that has it (`rows`), and the result is the maximum over the rows. The buffer of rows
is held row by row (`rowPts`), since its rows are written by eight different devices; this file has the cut of the whole
buffer into rows, and that the three ways a row is written (the store, a transfer, and nothing) leave the same contents.
-/
module

public import proofs.«01_k».proof.Proof.Ideal.Prog
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.KernelIdeal.Max

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The ghost state: the library's own for its staging cells, and this kernel's, whose duties are named by devices. -/
abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `k`'s block of `x`, as launched. -/
def block (k : Dev nD) : main_arg0.ty.Contents (Elt F) := m ((k : Thread nD τ).loc main_arg0)

/-- The index within its row of an index of the buffer of rows. -/
def inRow (i : S8x1x256.Idx) : S1x1x256.Idx
  | ⟨0, _⟩ => (0 : Fin 1)
  | ⟨1, _⟩ => i 1
  | ⟨2, _⟩ => i 2

/-- The buffer of rows, every row in: row `k` is the maximum of device `k`'s block. -/
def rows : cc0_scratch2.ty.Contents (Elt F) := fun i => k0_pay1 (k0_pay9 (block m (i 0))) (inRow i)

/-- The result: the maximum of the rows. -/
def result : main_v1.ty.Contents (Elt F) := k0_pay10 (rows m)

/-! ## Rows -/

/-- Row `s` of device `d`'s buffer, held at share `q` with contents `f`. -/
def rowPts (d : Dev nD) (s : Fin 8) (q : PosShare TreeShare) (f : cc0_scratch2.ty.Contents (Elt F)) : sProp 𝕄 :=
  (rowM s).view.loc (d : Thread nD τ) ↦[(rowM s).view.set]{q} f

instance rowPts_storable (d : Dev nD) (s : Fin 8) (q) (f) : BI.Storable (upEmb : UEmb _ 𝕄) (rowPts (F := F) d s q f) := by
  unfold rowPts; infer_instance

theorem row_set (s : Fin 8) : (rowM s).view.set = (rowR s).set := by
  refine (View.set_reshape _ _).trans ?_
  exact (View.set_slice _ _).trans Finset.map_refl

theorem access_set (s : Fin 8) : ((cM : Memref sig .tc .vmem S8x1x256 .f32).access (rowR s)).set = (rowR s).set :=
  (View.set_slice _ _).trans Finset.map_refl

/-- A row's elements are those whose first coordinate is its number. -/
theorem mem_row {s : Fin 8} {i : S8x1x256.Idx} : i ∈ (rowR s).set ↔ i 0 = s := by
  refine Rect.mem_set_unit.trans ⟨fun h => Fin.ext ?_, fun h a => ?_⟩
  · have h0 : s.val ≤ (i 0).val ∧ (i 0).val < s.val + 1 := h 0
    omega
  · subst h
    match a with
    | ⟨0, _⟩ => exact ⟨le_refl (i 0).val, Nat.lt_succ_self (i 0).val⟩
    | ⟨1, _⟩ => exact ⟨Nat.zero_le _, (i 1).isLt.trans_eq (Nat.zero_add 1).symm⟩
    | ⟨2, _⟩ => exact ⟨Nat.zero_le _, (i 2).isLt.trans_eq (Nat.zero_add 256).symm⟩

theorem rows_disjoint (s s' : Fin 8) (h : s ≠ s') : Disjoint (rowR s).set (rowR s').set :=
  Finset.disjoint_left.mpr fun i hi hi' => h ((mem_row.mp hi).symm.trans (mem_row.mp hi'))

theorem rows_cover : (Finset.univ.biUnion fun s : Fin 8 => (rowR s).set) = Finset.univ :=
  Finset.eq_univ_iff_forall.mpr fun i => Finset.mem_biUnion.mpr ⟨i 0, Finset.mem_univ _, mem_row.mpr rfl⟩

theorem rowPts_eq (d : Dev nD) (s : Fin 8) (q : PosShare TreeShare) (f : cc0_scratch2.ty.Contents (Elt F)) :
    rowPts d s q f = (((d : Thread nD τ).loc cc0_scratch2) ↦[(rowR s).set]{q} f : sProp 𝕄) := by
  unfold rowPts; rw [row_set]

/-- The whole buffer is its rows. -/
theorem rows_eq (d : Dev nD) (q : PosShare TreeShare) (f : cc0_scratch2.ty.Contents (Elt F)) :
    (((d : Thread nD τ).loc cc0_scratch2) ↦{q} f : sProp 𝕄) = bigSep Finset.univ fun s : Fin 8 => rowPts d s q f :=
  (Ring.pointsTo_blocks (ℓ := (d : Thread nD τ).loc cc0_scratch2) (fun s : Fin 8 => (rowR s).set) rows_disjoint rows_cover f).trans
    (bigSep_congr fun s _ => (rowPts_eq d s q f).symm)

/-- Rows held at contents of their own join to the whole buffer at some contents. -/
theorem rows_join (d : Dev nD) (f₀ : cc0_scratch2.ty.Contents (Elt F)) :
    bigSep Finset.univ (fun s : Fin 8 => iprop(∃ f, rowPts d s fullShare f))
      ⊢ (iprop(∃ g : cc0_scratch2.ty.Contents (Elt F), ((d : Thread nD τ).loc cc0_scratch2) ↦{fullShare} g) : sProp 𝕄) := by
  refine .trans (bigSep_mono fun s _ => ?_) (Ring.pointsTo_blocks_join_exists (ℓ := (d : Thread nD τ).loc cc0_scratch2)
    (fun s : Fin 8 => (rowR s).set) rows_disjoint rows_cover f₀)
  simp only [rowPts_eq]
  exact Entails.refl _

/-- A row read from the full buffer and written over any contents leaves the full buffer's contents there. -/
theorem row_sent (s : Fin 8) (f g : cc0_scratch2.ty.Contents (Elt F)) :
    ∀ i ∈ (rowM s).view.set, (rowM s).view.write (Elt F) f ((rowM s).view.read (Elt F) g) Finset.univ i = g i := by
  intro i hi
  obtain ⟨x, -, rfl⟩ := Finset.mem_map.mp hi
  rw [View.write_emb_of_mem _ _ (Finset.mem_univ x)]
  rfl

/-- The partial maximum of device `s`'s block stored through its row leaves the full buffer's contents there. -/
theorem row_stored (s : Fin 8) (f : cc0_scratch2.ty.Contents (Elt F)) :
    ∀ i ∈ (rowM s).view.set,
      ((cM : Memref sig .tc .vmem S8x1x256 .f32).access (rowR s)).write (Elt F) f (k0_pay1 (k0_pay9 (block m s))) Finset.univ i
        = rows m i := by
  intro i hi
  have hs : i 0 = s := mem_row.mp (row_set s ▸ hi)
  have hi' : i ∈ ((cM : Memref sig .tc .vmem S8x1x256 .f32).access (rowR s)).set := by rw [access_set, ← row_set]; exact hi
  obtain ⟨x, -, hx⟩ := Finset.mem_map.mp hi'
  subst hx
  rw [View.write_emb_of_mem _ _ (Finset.mem_univ x)]
  have hr : rows m (((cM : Memref sig .tc .vmem S8x1x256 .f32).access (rowR s)).emb x)
      = k0_pay1 (k0_pay9 (block m s)) (inRow (((cM : Memref sig .tc .vmem S8x1x256 .f32).access (rowR s)).emb x)) := by
    unfold rows; rw [hs]
  rw [hr]
  generalize k0_pay1 (k0_pay9 (block m s)) = w
  refine congrArg w (funext fun a => ?_)
  match a with
  | ⟨0, _⟩ => exact Fin.ext (Nat.lt_one_iff.mp (x 0).isLt)
  | ⟨1, _⟩ => exact Fin.ext (((Nat.zero_add _).trans (Nat.one_mul (x 1).val)).symm)
  | ⟨2, _⟩ => exact Fin.ext (((Nat.zero_add _).trans (Nat.one_mul (x 2).val)).symm)

end Cert.KernelIdeal.Max

end
-- ==== Proof.Ideal.Cells.lean ====
/-
# The semaphores as cells, and what each is counted with

Every semaphore of every device is used once: its counter goes up to a known total and the device waits for that total.
A semaphore's *duties* are the devices that raise it, each by a fixed amount and each handing over something to the
device that waits:

- the barrier of `c`: every other device `p`, by one, handing over row `c` of `p`'s own buffer, for `c` to fill;
- the send semaphore of destination `d` on `c`: `c` itself, getting back the share of its row the transfer read;
- the receive semaphore of source `s` on `c`: `s`, handing over row `s` filled in;
- the two local copies: `c` itself, with the source and the destination.
-/
module

public import proofs.«01_k».proof.Proof.Ideal.Rows

@[expose] public section

noncomputable section

namespace Cert.KernelIdeal.Max

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's semaphores -/

/-- The index of a device's semaphores: the barrier, the send semaphores, the receive semaphores, the local copies'. -/
abbrev Cl : Type := Unit ⊕ Fin 8 ⊕ Fin 8 ⊕ Fin 2

@[match_pattern] abbrev bar : Cl := .inl ()
@[match_pattern] abbrev snd (d : Fin 8) : Cl := .inr (.inl d)
@[match_pattern] abbrev rcv (s : Fin 8) : Cl := .inr (.inr (.inl s))
@[match_pattern] abbrev cpy (i : Fin 2) : Cl := .inr (.inr (.inr i))

def semOf : Cl → SemLoc sig
  | bar => .reg barS
  | snd d => .dma (sendS d)
  | rcv s => .dma (recvS s)
  | cpy i => .dma (copyS i)

set_option maxRecDepth 65536 in
set_option maxHeartbeats 0 in
theorem semOf_bijective : Function.Bijective semOf := by decide

/-- The index is of all of a device's semaphores. -/
def semEquiv : Cl ≃ SemLoc sig := Equiv.ofBijective semOf semOf_bijective
def clOf (sm : SemLoc sig) : Cl := semEquiv.symm sm

@[simp] theorem clOf_semOf (k : Cl) : clOf (semOf k) = k := semEquiv.symm_apply_apply k

/-- The semaphore `k` of device `c`. -/
abbrev cell (c : Dev nD) (k : Cl) : GSem nD τ sig := ((c : Thread nD τ), semOf k)

/-! ## Amounts, duties, payloads -/

/-- What the transfer of a row, of the block in and of the result out is counted with. -/
abbrev nRow : ℕ := (rowM 0).view.dmaCredit
abbrev nIn : ℕ := (xV : Memref sig .tc .vmem S512x256 .f32).view.dmaCredit
abbrev nOut : ℕ := (oH : Memref sig .tc .hbm S1x256 .f32).view.dmaCredit
theorem nRow_pos : 0 < nRow := View.dmaCredit_pos _ (by decide)
theorem nIn_pos : 0 < nIn := View.dmaCredit_pos _ (by decide)
theorem nOut_pos : 0 < nOut := View.dmaCredit_pos _ (by decide)

def amt : Cl → ℕ
  | bar => 1
  | snd _ => nRow
  | rcv _ => nRow
  | cpy 0 => nIn
  | cpy 1 => nOut

theorem amt_pos : ∀ k, 0 < amt k
  | bar => Nat.one_pos
  | snd _ => nRow_pos
  | rcv _ => nRow_pos
  | cpy 0 => nIn_pos
  | cpy 1 => nOut_pos

/-- The devices that raise semaphore `k` of device `c`. -/
def dutySet (c : Fin 8) : Cl → Finset (Fin 8)
  | bar => Finset.univ.erase c
  | snd d => if d = c then ∅ else {c}
  | rcv s => if s = c then ∅ else {s}
  | cpy _ => {c}

/-- The share of its row a device's transfer to `d` reads. -/
abbrev piece (d : Fin 8) : PosShare TreeShare := Transfers.shareTok fullShare 8 d
/-- What is left beside the pieces. -/
abbrev rest : PosShare TreeShare := Transfers.shareDrop fullShare 8

/-- What device `p`'s raising of semaphore `k` of device `c` hands `c`. -/
def pay (c : Fin 8) : Cl → Fin 8 → sProp 𝕄
  | bar, p => iprop(∃ f, rowPts p c fullShare f)
  | snd d, _ => rowPts c c (piece d) (rows m)
  | rcv s, _ => rowPts c s fullShare (rows m)
  | cpy 0, _ => iprop((((c : Dev nD) : Thread nD τ).loc cc0_scratch0 ↦{fullShare} block m c) ∗ (((c : Dev nD) : Thread nD τ).loc main_arg0 ↦{fullShare} block m c))
  | cpy 1, _ => iprop((((c : Dev nD) : Thread nD τ).loc main_v1 ↦{fullShare} result m) ∗ (((c : Dev nD) : Thread nD τ).loc cc0_scratch1 ↦{fullShare} result m))

instance pay_storable (c : Fin 8) (k : Cl) (d : Fin 8) : BI.Storable (upEmb : UEmb _ 𝕄) (pay m c k d) := by
  match k with
  | bar => unfold pay; infer_instance
  | snd _ => unfold pay; infer_instance
  | rcv _ => unfold pay; infer_instance
  | cpy 0 => unfold pay; infer_instance
  | cpy 1 => unfold pay; infer_instance

/-- The schedule: one round. -/
def sched : Rounds.Schedule (GSem nD τ sig) (Fin 8) 𝕄 where
  duties g r := if r = 0 ∧ g.1.2 = .tc then dutySet g.1.1 (clOf g.2) else ∅
  unitless _ := False
  amount g _ _ := amt (clOf g.2)
  payload g _ d := pay m g.1.1 (clOf g.2) d
  amount_pos g _ _ _ := amt_pos _

instance sched_storable (g : GSem nD τ sig) (r : ℕ) (d : Fin 8) : BI.Storable (upEmb : UEmb _ 𝕄) ((sched (F := F) m).payload g r d) := by
  unfold sched; infer_instance

theorem duties_eq (c : Dev nD) (k : Cl) : (sched (F := F) m).duties (cell c k) 0 = dutySet c k := by
  dsimp only [sched]; rw [if_pos ⟨rfl, rfl⟩, clOf_semOf]
theorem duties_later (g : GSem nD τ sig) : ∀ r, 1 ≤ r → (sched (F := F) m).duties g r = ∅ :=
  fun r hr => by dsimp only [sched]; rw [if_neg fun h => by omega]
theorem duties_none (c : Dev nD) (k : Cl) (h : dutySet c k = ∅) : ∀ r, 0 ≤ r → (sched (F := F) m).duties (cell c k) r = ∅ := by
  intro r _
  rcases Nat.eq_zero_or_pos r with rfl | hr
  · rw [duties_eq, h]
  · exact duties_later m _ r hr
theorem amount_eq (c : Dev nD) (k : Cl) (d : Fin 8) : (sched (F := F) m).amount (cell c k) 0 d = amt k := by
  dsimp only [sched]; rw [clOf_semOf]
theorem payload_eq (c : Dev nD) (k : Cl) (d : Fin 8) : (sched (F := F) m).payload (cell c k) 0 d = pay m c k d := by
  dsimp only [sched]; rw [clOf_semOf]
theorem expect_eq (c : Dev nD) (k : Cl) : (sched (F := F) m).expect (cell c k) 0 = (dutySet c k).card * amt k := by
  unfold Schedule.expect Schedule.amountOf
  rw [duties_eq, Finset.sum_congr rfl fun d _ => amount_eq m c k d, Finset.sum_const, smul_eq_mul]

/-- What a wait for all of a semaphore's total collects. -/
theorem rest_eq (c : Dev nD) (k : Cl) :
    bigSep ((sched (F := F) m).duties (cell c k) 0 \ ∅) (fun d => (sched (F := F) m).payload (cell c k) 0 d)
      = bigSep (dutySet c k) (pay m c k) := by
  rw [Finset.sdiff_empty, duties_eq]; exact bigSep_congr fun d _ => payload_eq m c k d

theorem dutySet_snd {c d : Fin 8} (h : d ≠ c) : dutySet c (snd d) = {c} := if_neg h
theorem dutySet_rcv {c s : Fin 8} (h : s ≠ c) : dutySet c (rcv s) = {s} := if_neg h
theorem card_bar (c : Fin 8) : (dutySet c bar).card = 7 := by revert c; decide

/-! ## What each device owes, and the levels -/

/-- At launch device `c` owes every other device's receive semaphore a row and every other device's barrier one. -/
def owedRows (ds : Finset (Fin 8)) (c : Dev nD) : CellTallies nD τ sig Unit := ∑ d ∈ ds, tallyAt (cell d (rcv c)) () nRow
def owedBars (ds : Finset (Fin 8)) : CellTallies nD τ sig Unit := ∑ d ∈ ds, tallyAt (cell d bar) () 1
def owed (c : Dev nD) : CellTallies nD τ sig Unit := owedRows (Finset.univ.erase c) c + owedBars (Finset.univ.erase c)

def lev (g : GSem nD τ sig) : Finset Unit := if g.1.2 = .tc then {()} else ∅
/-- Barriers below receive semaphores, everything else below both. -/
def levelOf : Cl → ℕ
  | bar => 1
  | rcv _ => 2
  | _ => 0
def level (g : GSem nD τ sig) (_ : Unit) : ℕ := levelOf (clOf g.2)

theorem lev_of_ne (g : GSem nD τ sig) (h : g.1.2 ≠ .tc) : lev g = ∅ := if_neg h
theorem lev_tc (c : Dev nD) (sm : SemLoc sig) : lev ((c : Thread nD τ), sm) = {()} := if_pos rfl
theorem level_cell (c : Dev nD) (k : Cl) (u : Unit) : level (cell c k) u = levelOf k := by unfold level; rw [clOf_semOf]

theorem sum_pos {ι : Type} (s : Finset ι) (f : ι → GSem nD τ sig) (n : ℕ) {g : GSem nD τ sig} {u : Unit}
    (h : 0 < (∑ i ∈ s, tallyAt (f i) () n : CellTallies nD τ sig Unit) g u) : ∃ i ∈ s, g = f i := by
  by_contra hn
  refine absurd h (Nat.not_lt.mpr (Nat.le_of_eq ?_))
  rw [Finset.sum_apply, Finsupp.finset_sum_apply]
  refine Finset.sum_eq_zero fun i hi => ?_
  rw [tallyAt_apply, if_neg fun h' => hn ⟨i, hi, h'.1⟩]

theorem owedRows_pos {ds : Finset (Fin 8)} {c : Dev nD} {g : GSem nD τ sig} {u : Unit} (h : 0 < owedRows ds c g u) :
    ∃ d ∈ ds, g = cell d (rcv c) := sum_pos ds (fun d => cell d (rcv c)) nRow h
theorem owed_pos {c : Dev nD} {g : GSem nD τ sig} {u : Unit} (h : 0 < owed c g u) :
    ∃ d ≠ c, g = cell d (rcv c) ∨ g = cell d bar := by
  unfold owed at h
  rw [Pi.add_apply, Finsupp.add_apply] at h
  rcases Nat.add_pos_iff_pos_or_pos.mp h with h | h
  · obtain ⟨d, hd, e⟩ := owedRows_pos h; exact ⟨d, Finset.ne_of_mem_erase hd, .inl e⟩
  · obtain ⟨d, hd, e⟩ := sum_pos _ (fun d : Fin 8 => cell d bar) 1 h; exact ⟨d, Finset.ne_of_mem_erase hd, .inr e⟩

/-- A device may wait on its barrier, or on anything below it, while it owes rows only. -/
theorem mayWait (c : Dev nD) (k : Cl) (hk : levelOf k ≤ 1) (ds : Finset (Fin 8)) :
    (levAts lev level : sProp 𝕄) ⊢ MayWait (c : Thread nD τ) (semOf k) () (owedRows ds c) :=
  MayOwe.of_cut (L := lev) (lev := level) 1 (fun p hp => by rw [Finset.mem_singleton.mp hp, lev_tc]; exact Finset.mem_singleton_self _)
    (fun g u hg => by obtain ⟨d, -, rfl⟩ := owedRows_pos hg; exact Finset.mem_singleton_self _)
    (fun p hp => by rw [Finset.mem_singleton.mp hp]; exact (level_cell c k ()).le.trans hk)
    (fun g u hg => by obtain ⟨d, -, rfl⟩ := owedRows_pos hg; rw [level_cell]; exact Nat.one_lt_two)

end Cert.KernelIdeal.Max

end
-- ==== Proof.Ideal.Steps.lean ====
/-
# The kernel's steps, one rule per kind

One rule for each kind of step: a signal to a peer, the transfer of the device's row to a peer, a wait for all of a
semaphore's total; then, by induction on the list, for the signals to several peers, the transfers to several peers, and
the waits for several rows.
-/
module

public import proofs.«01_k».proof.Proof.Ideal.Cells

@[expose] public section

noncomputable section

namespace Cert.KernelIdeal.Max

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- One and the rest of several. -/
theorem several_insert {I : Type} [DecidableEq I] {s : Finset I} {i : I} (hi : i ∉ s) {Φ : I → sProp 𝕄} :
    bigSep (insert i s) Φ = iprop(Φ i ∗ bigSep s Φ) := bigSep_insert hi

abbrev 𝒱₀ : Variants := Variants.none

/-- Device `c` runs `p` and ends in `Q`. -/
abbrev run (c : Dev nD) (p : P F) (Q : PUnit → sProp 𝕄) : sProp 𝕄 :=
  wp frame (wpE (defs₀ (F := F)) 𝒱₀ (c : Thread nD τ) none) Set.univ p Q

/-- Device `c` owes `O`, whatever it has waited on. -/
def owesSome (c : Dev nD) (O : CellTallies nD τ sig Unit) : sProp 𝕄 := iprop(∃ W, owes (c : Thread nD τ) O W)

/-- What everyone knows: every semaphore is shared under its schedule, and its round has begun. -/
def known (K : Dev nD × Cl → ℕ) : sProp 𝕄 :=
  bigSep Finset.univ fun x : Dev nD × Cl => iprop(cellInv ER (sched (F := F) m) (K x) (cell x.1 x.2) ∗ reached ER (cell x.1 x.2) 0)

instance known_persistent (K : Dev nD × Cl → ℕ) : BI.Persistent (known m K) := by unfold known; infer_instance

theorem known_at (K : Dev nD × Cl → ℕ) (c : Dev nD) (k : Cl) :
    known m K ⊢ iprop(cellInv ER (sched (F := F) m) (K (c, k)) (cell c k) ∗ reached ER (cell c k) 0) :=
  bigSep_elim (i := (c, k)) (Finset.mem_univ _)

section
variable (K : Dev nD × Cl → ℕ) (c : Dev nD)

/-! ## One step -/

/-- A signal to `d`, with row `d` of the device's own buffer. -/
theorem wp_signal_peer (d : Dev nD) (hd : c ∈ dutySet d bar) (O : CellTallies nD τ sig Unit) (r : P F) {Q : PUnit → sProp 𝕄} :
    iprop(known m K ∗ owesSome c (O + tallyAt (cell d bar) () 1) ∗ dutyTok ER (cell d bar) 0 c ∗ (∃ f, rowPts c d fullShare f))
      ⊢ iprop((owesSome c O -∗ run c r Q) -∗ run c (.op (.semSignal (Dev.tc d) barS 1) fun _ => r) Q) := by
  have key (W : Waits sig Unit) := Rounds.wp_signal (defs := defs₀ (F := F)) (Γ := .empty) 𝒱₀ ER (sched m) (c : Thread nD τ) none (dst := (d : Thread nD τ)) (sem := barS) (κ := K (d, bar)) (k' := 1)
    (d := c) (r := 0) (k := fun _ => r) (Q := Q) (by rw [show ((d : Thread nD τ), SemLoc.reg barS) = cell d bar from rfl, duties_eq]; exact hd)
    (amount_eq m d bar c) () O rfl (W := W) (Es := Set.univ)
  unfold owesSome
  iintro ⟨#HK, ⟨%W, HO⟩, Ht, Hp⟩ Hk
  ihave ⟨#HI, #HR⟩ := (known_at m K d bar) $$ HK
  iapply (key W) $$ [HO Ht Hp]
  · isplitr; · iexact HI
    isplitl [HO]; · iexact HO
    isplitl [Ht]; · iexact Ht
    isplitl [Hp]
    · rw [show ((d : Thread nD τ), SemLoc.reg barS) = cell d bar from rfl, payload_eq, show pay m d bar c = iprop(∃ f, rowPts c d fullShare f) from rfl]; iexact Hp
    iexact HR
  iintro HO
  iapply Hk
  iexists W; iexact HO

/-- The transfer of the device's row to `d`, reading the piece of it that is for `d`. -/
theorem wp_send_peer (d : Dev nD) (hd : d ≠ c) (O : CellTallies nD τ sig Unit) (r : P F) {Q : PUnit → sProp 𝕄}
    {h₁ : (rowM c : Memref sig .tc .vmem S1x256 .f32).view.WordExact} {h₂ : (rowM c : Memref sig .tc .vmem S1x256 .f32).view.WordExact}
    {h₃ : (rowM c : Memref sig .tc .vmem S1x256 .f32).view.ref.isScScratch = false}
    {h₄ : DmaTarget.Typed .vmem (.dma (recvS c)) (.remote (Dev.tc d : Thread nD τ) (rowM c) (.dma (sendS d)) h₃)} :
    iprop(known m K ∗ owesSome c (O + tallyAt (cell d (rcv c)) () nRow) ∗ rowPts c c (piece d) (rows m) ∗ (∃ f, rowPts d c fullShare f)
        ∗ dutyTok ER (cell c (snd d)) 0 c ∗ dutyTok ER (cell d (rcv c)) 0 c)
      ⊢ iprop(((cred (tallyAt (cell c (snd d)) () nRow) ∗ owesSome c O) -∗ run c r Q)
          -∗ run c (.op (.enqueueDma (rowM c) (.remote (Dev.tc d : Thread nD τ) (rowM c) (.dma (sendS d)) h₃) (.dma (recvS c)) h₁ h₂ h₄) fun _ => r) Q) := by
  have key (W : Waits sig Unit) (f : cc0_scratch2.ty.Contents (Elt F)) :=
    Rounds.wp_send_pointsTo (defs := defs₀ (F := F)) (Γ := .empty) 𝒱₀ ER (sched m) (c : Thread nD τ) none (κ₁ := K (c, snd d)) (κ₂ := K (d, rcv c)) (c' := (d : Thread nD τ))
    (src := rowM c) (dst := rowM c) (sS := .dma (sendS d)) (sem := .dma (recvS c)) (q := piece d) (fs := rows m) (hsrc := h₁) (hdst := h₂) (hsem := h₄) (hsc := h₃)
    (r₁ := 0) (r₂ := 0) (d₁ := c) (d₂ := c) (fd := f) (k := fun _ => r) (Q := Q) (Es := Set.univ)
    (by rw [show ((c : Thread nD τ), SemLoc.dma (sendS d)) = cell c (snd d) from rfl, duties_eq, dutySet_snd hd]; exact Finset.mem_singleton_self _)
    (by rw [show ((d : Thread nD τ), SemLoc.dma (recvS c)) = cell d (rcv c) from rfl, duties_eq, dutySet_rcv hd.symm]; exact Finset.mem_singleton_self _)
    () () nRow rfl (amount_eq m c (snd d) c) (amount_eq m d (rcv c) c) O rfl (W := W)
    (by rw [show ((c : Thread nD τ), SemLoc.dma (sendS d)) = cell c (snd d) from rfl, payload_eq]; exact Entails.refl _)
    (by
      rw [show ((d : Thread nD τ), SemLoc.dma (recvS c)) = cell d (rcv c) from rfl, payload_eq]
      exact Entails.of_eq (pointsTo_congr (row_sent c f (rows m))))
  unfold owesSome rowPts
  iintro ⟨#HK, ⟨%W, HO⟩, Hs, ⟨%f, Hd⟩, Ht, Ht'⟩ Hk
  ihave ⟨#HI, #HR⟩ := (known_at m K c (snd d)) $$ HK
  ihave ⟨#HI', #HR'⟩ := (known_at m K d (rcv c)) $$ HK
  iapply (key W f) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  iapply Hk
  isplitl [Hc]; · iexact Hc
  iexists W; iexact HO

/-- A wait for all of a semaphore's total. -/
theorem wp_wait_all (k : Cl) {n : ℕ} (hn : (dutySet c k).card * amt k = n) (O : CellTallies nD τ sig Unit)
    {w : TpuEff nD τ sig (Elt F) Λ₀ .tc PUnit}
    (hw : ∀ R : PUnit → sProp 𝕄, wpE (defs₀ (F := F)) 𝒱₀ (c : Thread nD τ) none Set.univ w R = waitSpec (c : Thread nD τ) Set.univ (semOf k) n R) (r : P F) {Q : PUnit → sProp 𝕄} :
    iprop(known m K ∗ owesSome c O ∗ MayWait (c : Thread nD τ) (semOf k) () O ∗ cred (tallyAt (cell c k) () n) ∗ atPos ER (cell c k) 0 ∅ 0)
      ⊢ iprop(((owesSome c O ∗ atPos ER (cell c k) 1 ∅ 0 ∗ bigSep (dutySet c k) (pay m c k)) -∗ run c r Q) -∗ run c (.op w fun _ => r) Q) := by
  have key (W : Waits sig Unit) := Rounds.wp_wait_rest_token (defs := defs₀ (F := F)) (Γ := .empty) 𝒱₀ ER (sched m) (c : Thread nD τ) none (κ := K (c, k)) (Q := Q)
      hw (Set.mem_univ _) () (O := O) (W := W) (R := 0) (m := 0) (T := ∅) (k := fun _ => r)
      (by rw [Nat.zero_add, ← hn]; exact (expect_eq m c k).symm)
  unfold owesSome
  iintro ⟨#HK, ⟨%W, HO⟩, HM, Hc, Ha⟩ Hk
  ihave ⟨#HI, #HR⟩ := (known_at m K c k) $$ HK
  iapply (key W) $$ [HO HM Hc Ha]
  · isplitr; · iexact HI
    isplitl [Hc]; · iexact Hc
    isplitl [HO]; · iexact HO
    isplitl [HM]; · iexact HM
    iexact Ha
  iintro ⟨HO, Ha, -, Hp⟩
  ihave Hp := (Entails.of_eq (rest_eq m c k)) $$ Hp
  iapply Hk
  isplitl [HO]; · iexists _; iexact HO
  isplitl [Ha]; · iexact Ha
  iexact Hp

/-! ## Several -/

theorem wp_signals (O : CellTallies nD τ sig Unit) (r : P F) {Q : PUnit → sProp 𝕄} : ∀ (ds : List (Dev nD)), ds.Nodup → (∀ d ∈ ds, d ≠ c) →
    iprop(known m K ∗ owesSome c (O + owedBars ds.toFinset) ∗ bigSep ds.toFinset (fun d => iprop(dutyTok ER (cell d bar) 0 c ∗ (∃ f, rowPts c d fullShare f))))
      ⊢ iprop((owesSome c O -∗ run c r Q) -∗ run c (signals ds r) Q)
  | [], _, _ => by
    unfold owedBars
    rw [List.toFinset_nil, Finset.sum_empty, add_zero, bigSep_empty]
    iintro ⟨-, HO, -⟩ Hk
    iapply Hk; iexact HO
  | d :: ds, hn, hc => by
    have hd : d ∉ ds.toFinset := fun h => (List.nodup_cons.mp hn).1 (List.mem_toFinset.mp h)
    have ih := wp_signals (Q := Q) O r ds (List.nodup_cons.mp hn).2 fun x hx => hc x (List.mem_cons_of_mem _ hx)
    have hcd : d ≠ c := hc d List.mem_cons_self
    unfold owedBars at ih ⊢
    rw [List.toFinset_cons, Finset.sum_insert hd, several_insert hd, add_comm (tallyAt _ _ _), ← add_assoc]
    iintro ⟨#HK, HO, ⟨Ht, Hp⟩, Hr⟩ Hk
    unfold signals
    iapply (wp_signal_peer m K c d (Finset.mem_erase.mpr ⟨hcd.symm, Finset.mem_univ _⟩)) $$ [HO Ht Hp]
    · isplitr; · iexact HK
      isplitl [HO]; · iexact HO
      isplitl [Ht] <;> iassumption
    iintro HO
    iapply ih $$ [HO Hr]
    · isplitr; · iexact HK
      isplitl [HO] <;> iassumption
    iexact Hk

theorem wp_sends (r : P F) {Q : PUnit → sProp 𝕄} : ∀ (ds : List (Fin 8)), ds.Nodup → (∀ d ∈ ds, d ≠ c) →
    iprop(known m K ∗ owesSome c (owedRows ds.toFinset c)
        ∗ bigSep ds.toFinset (fun d => iprop(rowPts c c (piece d) (rows m) ∗ (∃ f, rowPts d c fullShare f) ∗ dutyTok ER (cell c (snd d)) 0 c ∗ dutyTok ER (cell d (rcv c)) 0 c)))
      ⊢ iprop(((bigSep ds.toFinset (fun d => cred (tallyAt (cell c (snd d)) () nRow)) ∗ owesSome c 0) -∗ run c r Q) -∗ run c (sends c ds r) Q)
  | [], _, _ => by
    unfold owedRows
    rw [List.toFinset_nil, Finset.sum_empty, bigSep_empty, bigSep_empty]
    iintro ⟨-, HO, -⟩ Hk
    iapply Hk
    isplitr; · iempintro
    iexact HO
  | d :: ds, hn, hc => by
    have hd : d ∉ ds.toFinset := fun h => (List.nodup_cons.mp hn).1 (List.mem_toFinset.mp h)
    have ih := wp_sends (Q := Q) r ds (List.nodup_cons.mp hn).2 fun x hx => hc x (List.mem_cons_of_mem _ hx)
    have hcd : d ≠ c := hc d List.mem_cons_self
    unfold owedRows at ih ⊢
    rw [List.toFinset_cons, Finset.sum_insert hd, several_insert hd, several_insert hd, add_comm (tallyAt _ _ _)]
    iintro ⟨#HK, HO, ⟨Hs, Hd, Ht, Ht'⟩, Hr⟩ Hk
    unfold sends
    iapply (wp_send_peer m K c d hcd) $$ [HO Hs Hd Ht Ht']
    · isplitr; · iexact HK
      isplitl [HO]; · iexact HO
      isplitl [Hs]; · iexact Hs
      isplitl [Hd]; · iexact Hd
      isplitl [Ht] <;> iassumption
    iintro ⟨Hc, HO⟩
    iapply ih $$ [HO Hr]
    · isplitr; · iexact HK
      isplitl [HO] <;> iassumption
    iintro ⟨Hcs, HO⟩
    iapply Hk
    isplitl [Hc Hcs]
    · isplitl [Hc] <;> iassumption
    iexact HO

/-- Waits for rows, one per place of the list: on semaphore `k d`, which `q d` is in the program, for the amount row `s d` names. -/
def waits (q : Fin 8 → DmaSem sig) (s : Fin 8 → Fin 8) : List (Fin 8) → P F → P F
  | [], r => r
  | d :: ds, r => .op (.waitDma2 (q d) (rowM (s d)) (rowM (s d)) ((View.wordExact_bits rfl).reshape _ _) ((View.wordExact_bits rfl).reshape _ _)) fun _ => waits q s ds r

theorem wp_waits (k : Fin 8 → Cl) (q : Fin 8 → DmaSem sig) (s : Fin 8 → Fin 8) (hq : ∀ d, semOf (k d) = .dma (q d)) (ha : ∀ d, amt (k d) = nRow)
    (payer : Fin 8 → Fin 8) (r : P F) {Q : PUnit → sProp 𝕄} : ∀ (ds : List (Fin 8)), ds.Nodup → (∀ d ∈ ds, dutySet c (k d) = {payer d}) →
    iprop(known m K ∗ owesSome c 0 ∗ bigSep ds.toFinset (fun d => iprop(cred (tallyAt (cell c (k d)) () nRow) ∗ atPos ER (cell c (k d)) 0 ∅ 0)))
      ⊢ iprop(((owesSome c 0 ∗ bigSep ds.toFinset (fun d => iprop(atPos ER (cell c (k d)) 1 ∅ 0 ∗ pay m c (k d) (payer d)))) -∗ run c r Q)
          -∗ run c (waits q s ds r) Q)
  | [], _, _ => by
    rw [List.toFinset_nil, bigSep_empty, bigSep_empty]
    iintro ⟨-, HO, -⟩ Hk
    iapply Hk
    isplitl [HO]; · iexact HO
    iempintro
  | d :: ds, hn, hc => by
    have hd : d ∉ ds.toFinset := fun h => (List.nodup_cons.mp hn).1 (List.mem_toFinset.mp h)
    have ih := wp_waits (Q := Q) k q s hq ha payer r ds (List.nodup_cons.mp hn).2 fun x hx => hc x (List.mem_cons_of_mem _ hx)
    have hs : dutySet c (k d) = {payer d} := hc d List.mem_cons_self
    rw [List.toFinset_cons, several_insert hd, several_insert hd]
    iintro ⟨#HK, HO, ⟨Hc, Ha⟩, Hr⟩ Hk
    unfold waits
    iapply (wp_wait_all m K c (k d) (n := nRow) (by rw [hs, Finset.card_singleton, one_mul, ha]) 0
      (fun R => by rw [hq]; exact wpE_waitDma2_eq 𝒱₀ (c : Thread nD τ) none Set.univ R)) $$ [HO Hc Ha]
    · isplitr; · iexact HK
      isplitl [HO]; · iexact HO
      isplitr; · rw [MayWait_zero]; iempintro
      isplitl [Hc] <;> iassumption
    rw [hs, bigSep_singleton]
    iintro ⟨HO, Ha, Hp⟩
    iapply ih $$ [HO Hr]
    · isplitr; · iexact HK
      isplitl [HO] <;> iassumption
    iintro ⟨HO, Hr⟩
    iapply Hk
    isplitl [HO]; · iexact HO
    isplitl [Ha Hp]
    · isplitl [Ha] <;> iassumption
    iexact Hr

end

/-! ## The branches taken -/

theorem isAt_iff (c s : Fin 8) : isAt s (place c) = 1#1 ↔ s = c := by revert c s; decide
theorem notAt_iff (c s : Fin 8) : notAt s (place c) = 1#1 ↔ s ≠ c := by revert c s; decide

end Cert.KernelIdeal.Max

end
-- ==== Proof.Ideal.Body.lean ====
/-
# The body, part by part

What each of the four parts of the body needs and leaves, from the rules of its steps.
-/
module

public import proofs.«01_k».proof.Proof.Ideal.Steps

@[expose] public section

noncomputable section

namespace Cert.KernelIdeal.Max

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The branches, decided -/

theorem stepsThen_none {f : Fin 8 → P F → P F} {c : Fin 8} (h : ∀ s ≠ c, ∀ r, f s r = r) (r : P F) :
    ∀ l : List (Fin 8), c ∉ l → stepsThen f l r = r
  | [], _ => rfl
  | s :: l, hl => by
    unfold stepsThen
    rw [h s (fun e => hl (e ▸ List.mem_cons_self)), stepsThen_none h r l (fun e => hl (List.mem_cons_of_mem _ e))]

theorem stepsThen_once {f : Fin 8 → P F → P F} {c : Fin 8} (h : ∀ s ≠ c, ∀ r, f s r = r) (r : P F) :
    ∀ l : List (Fin 8), l.Nodup → c ∈ l → stepsThen f l r = f c r
  | [], _, hc => absurd hc List.not_mem_nil
  | s :: l, hn, hc => by
    unfold stepsThen
    by_cases e : s = c
    · subst e; rw [stepsThen_none h r l (List.nodup_cons.mp hn).1]
    · rw [h s e, stepsThen_once h r l (List.nodup_cons.mp hn).2 ((List.mem_cons.mp hc).resolve_left fun e' => e e'.symm)]

/-- Only the branch of the device's own place sends. -/
theorem sends_eq (c : Dev nD) (v : FVec F S1x256 .f32) (r : P F) :
    stepsThen (sendAt c v) places r
      = .op (.load cM (rowR c).toLoadRect (View.loadsAt_vmem h_S1x1x256)) fun _ =>
        .op (.store cM (rowR c) (k0_pay1 v) Finset.univ (View.stores_vmem_bits_univ h_S1x1x256 rfl) (.inl rfl)) fun _ =>
        sends c (peers c) r := by
  refine (stepsThen_once (c := c) (fun s hs r => ?_) r places (by decide) (by revert c; decide)).trans ?_
  · unfold sendAt; exact dif_neg fun h => hs ((isAt_iff c s).mp h)
  · unfold sendAt; exact dif_pos ((isAt_iff c c).mpr rfl)

/-- Every place but the device's own is waited for. -/
theorem recvs_eq (c : Dev nD) (r : P F) : ∀ l : List (Fin 8),
    stepsThen (recvAt (place c)) l r = waits recvS id (l.filter (fun s => decide (s ≠ (c : Fin 8)))) r
  | [] => rfl
  | s :: l => by
    unfold stepsThen
    rw [recvs_eq c r l]
    unfold recvAt
    by_cases e : s = c
    · rw [dif_neg (fun h => (notAt_iff c s).mp h e), List.filter_cons_of_neg (by simpa using e)]
    · rw [dif_pos ((notAt_iff c s).mpr e), List.filter_cons_of_pos (by simpa using e)]; rfl

theorem sents_eq (c : Dev nD) (r : P F) : ∀ l : List (Fin 8),
    stepsThen (sentAt (place c)) l r = waits sendS (fun _ => 0) (l.filter (fun s => decide (s ≠ (c : Fin 8)))) r
  | [] => rfl
  | s :: l => by
    unfold stepsThen
    rw [sents_eq c r l]
    unfold sentAt
    by_cases e : s = c
    · rw [dif_neg (fun h => (notAt_iff c s).mp h e), List.filter_cons_of_neg (by simpa using e)]
    · rw [dif_pos ((notAt_iff c s).mpr e), List.filter_cons_of_pos (by simpa using e)]; rfl

/-- The other devices. -/
abbrev others (c : Fin 8) : Finset (Fin 8) := Finset.univ.erase c

theorem peers_set (c : Fin 8) : (peers c).toFinset = others c := by revert c; decide
theorem peers_nodup (c : Fin 8) : (peers c).Nodup := by revert c; decide
theorem peers_ne (c : Fin 8) : ∀ d ∈ peers c, d ≠ c := by revert c; decide
theorem waited_set (c : Fin 8) : (places.filter (fun s => decide (s ≠ c))).toFinset = others c := by revert c; decide
theorem waited_nodup (c : Fin 8) : (places.filter (fun s => decide (s ≠ c))).Nodup := by revert c; decide
theorem waited_ne (c : Fin 8) : ∀ d ∈ places.filter (fun s => decide (s ≠ c)), d ≠ c := by revert c; decide
theorem sig_set (c : Dev nD) : (sigDevs c).toFinset = others c := by revert c; decide
theorem sig_nodup (c : Dev nD) : (sigDevs c).Nodup := by revert c; decide
theorem sig_ne (c : Dev nD) : ∀ d ∈ sigDevs c, d ≠ c := by revert c; decide

/-! ## Buffers held whole -/

/-- Buffer `b` of device `c`, held with contents `f`. -/
abbrev holds (c : Dev nD) (b : Ref sig .tc) (f : b.ty.Contents (Elt F)) : sProp 𝕄 := ((c : Thread nD τ).loc b) ↦{fullShare} f

theorem holds_eq (c : Dev nD) (b : Ref sig .tc) (f : b.ty.Contents (Elt F)) :
    holds c b f = ((Memref.whole b).view.loc (c : Thread nD τ) ↦[(Memref.whole b).view.set]{fullShare} f : sProp 𝕄) := by
  unfold holds; rw [View.set_whole]

theorem zeros2 : (![0, 0] : Fin 2 → Nat) = fun _ => 0 := funext fun a => by fin_cases a <;> rfl
theorem zeros3 : (![0, 0, 0] : Fin 3 → Nat) = fun _ => 0 := funext fun a => by fin_cases a <;> rfl

theorem read_allX (f : cc0_scratch0.ty.Contents (Elt F)) : (xV : Memref sig .tc .vmem S512x256 .f32).view.readAt (Elt F) allX.toLoadRect f = f :=
  Memref.readAt_unit_zero (Elt F) cc0_scratch0 zeros2 _ f
theorem read_allC (f : cc0_scratch2.ty.Contents (Elt F)) : (cM : Memref sig .tc .vmem S8x1x256 .f32).view.readAt (Elt F) allC.toLoadRect f = f :=
  Memref.readAt_unit_zero (Elt F) cc0_scratch2 zeros3 _ f
theorem write_allO (f w : cc0_scratch1.ty.Contents (Elt F)) :
    ((oV : Memref sig .tc .vmem S1x256 .f32).access allO : View sig .tc _ _ _).write (Elt F) f w Finset.univ = w :=
  Memref.write_access_unit_zero_univ (Elt F) cc0_scratch1 zeros2 _ f w

/-! ## A row's pieces -/

/-- A row is what stays and the pieces the transfers read. -/
theorem row_cut (d : Dev nD) (s : Fin 8) (f : cc0_scratch2.ty.Contents (Elt F)) :
    rowPts d s fullShare f ⊢ iprop(rowPts d s rest f ∗ bigSep Finset.univ (fun i : Fin 8 => rowPts d s (piece i) f)) := by
  unfold rowPts; exact Transfers.pointsTo_toks_split fullShare 8
theorem row_whole (d : Dev nD) (s : Fin 8) (f : cc0_scratch2.ty.Contents (Elt F)) :
    iprop(rowPts d s rest f ∗ bigSep Finset.univ (fun i : Fin 8 => rowPts d s (piece i) f)) ⊢ rowPts d s fullShare f := by
  unfold rowPts; exact Transfers.pointsTo_toks_join fullShare 8

/-- Several pairs are several firsts and several seconds. -/
theorem several_sep {I : Type} (s : Finset I) (Φ Ψ : I → sProp 𝕄) :
    bigSep s (fun i => iprop(Φ i ∗ Ψ i)) = iprop(bigSep s Φ ∗ bigSep s Ψ) := bigSep_sep s Φ Ψ
/-- One of all, and the others. -/
theorem several_split (c : Fin 8) (Φ : Fin 8 → sProp 𝕄) :
    bigSep Finset.univ Φ = iprop(Φ c ∗ bigSep (others c) Φ) := bigSep_univ_split c

/-- What stays of every row, for a while, is the whole buffer at that share. -/
theorem rows_lend (d c : Fin 8) (f : cc0_scratch2.ty.Contents (Elt F)) :
    iprop(rowPts d c rest f ∗ bigSep (others c) (fun s => rowPts d s fullShare f))
      ⊢ iprop((((d : Dev nD) : Thread nD τ).loc cc0_scratch2 ↦{rest} f)
          ∗ ((((d : Dev nD) : Thread nD τ).loc cc0_scratch2 ↦{rest} f) -∗ (rowPts d c rest f ∗ bigSep (others c) (fun s => rowPts d s fullShare f)))) := by
  rw [rows_eq, several_split c]
  iintro ⟨H, Hs⟩
  have hc : (bigSep (others c) (fun s => rowPts d s fullShare f) : sProp 𝕄)
      ⊢ bigSep (others c) (fun s => iprop(rowPts d s rest f ∗ bigSep Finset.univ (fun i : Fin 8 => rowPts d s (piece i) f))) :=
    bigSep_mono fun s _ => row_cut d s f
  have hw : bigSep (others c) (fun s => iprop(rowPts d s rest f ∗ bigSep Finset.univ (fun i : Fin 8 => rowPts d s (piece i) f)))
      ⊢ (bigSep (others c) (fun s => rowPts d s fullShare f) : sProp 𝕄) :=
    bigSep_mono fun s _ => row_whole d s f
  rw [several_sep] at hc hw
  ihave Hs := hc $$ Hs
  icases Hs with ⟨Hs, Hp⟩
  isplitl [H Hs]
  · isplitl [H] <;> iassumption
  iintro ⟨H, Hs⟩
  isplitl [H]; · iexact H
  iapply hw
  isplitl [Hs] <;> iassumption

section
variable (K : Dev nD × Cl → ℕ) (c : Dev nD)

theorem run_ret {Q : PUnit → sProp 𝕄} : run (F := F) c (.ret ⟨⟩) Q = iprop(|={Set.univ}=> Q ⟨⟩) := wp_ret _ _ _ _ _

/-! ## The two local copies -/

theorem wp_copy_in (r : P F) {Q : PUnit → sProp 𝕄}
    {h₁ : (xH : Memref sig .tc .hbm S512x256 .f32).view.WordExact} {h₂ : (xV : Memref sig .tc .vmem S512x256 .f32).view.WordExact}
    {h₃ : DmaTarget.Typed (nD := nD) (p := (.tc : Proc τ)) .hbm (.dma (copyS 0)) (.here xV)} :
    iprop(known m K ∗ holds c main_arg0 (block m c) ∗ (∃ f, holds c cc0_scratch0 f) ∗ dutyTok ER (cell c (cpy 0)) 0 c)
      ⊢ iprop((cred (tallyAt (cell c (cpy 0)) () nIn) -∗ run c r Q) -∗ run c (.op (.enqueueDma xH (.here xV) (.dma (copyS 0)) h₁ h₂ h₃) fun _ => r) Q) := by
  have key (f : cc0_scratch0.ty.Contents (Elt F)) :=
    Rounds.wp_copy_pointsTo (defs := defs₀ (F := F)) (Γ := .empty) 𝒱₀ ER (sched m) (c : Thread nD τ) none (κ := K (c, cpy 0))
    (src := xH) (dst := xV) (sem := .dma (copyS 0)) (q := fullShare) (fs := block m c) (hsrc := h₁) (hdst := h₂) (hsem := h₃)
    (r := 0) (d := c) (fd := f) (k := fun _ => r) (Q := Q) (Es := Set.univ)
    (by rw [show ((c : Thread nD τ), SemLoc.dma (copyS 0)) = cell c (cpy 0) from rfl, duties_eq]; exact Finset.mem_singleton_self _)
    () nIn rfl (amount_eq m c (cpy 0) c)
    (by
      rw [show ((c : Thread nD τ), SemLoc.dma (copyS 0)) = cell c (cpy 0) from rfl, payload_eq, ← holds_eq, ← holds_eq]
      refine Entails.of_eq (congrArg (fun g => iprop(holds c cc0_scratch0 g ∗ holds c main_arg0 (block m c))) ?_)
      exact (View.write_whole_univ _ _ _).trans (View.read_whole _ _))
  simp only [holds_eq]
  iintro ⟨#HK, Hs, ⟨%f, Hd⟩, Ht⟩ Hk
  ihave ⟨#HI, #HR⟩ := (known_at m K c (cpy 0)) $$ HK
  iapply (key f) $$ [Hs Hd Ht]
  · isplitr; · iexact HI
    isplitl [Hs]; · iexact Hs
    isplitl [Hd]; · iexact Hd
    isplitl [Ht]; · iexact Ht
    iexact HR
  iexact Hk

theorem wp_copy_out (r : P F) {Q : PUnit → sProp 𝕄}
    {h₁ : (oV : Memref sig .tc .vmem S1x256 .f32).view.WordExact} {h₂ : (oH : Memref sig .tc .hbm S1x256 .f32).view.WordExact}
    {h₃ : DmaTarget.Typed (nD := nD) (p := (.tc : Proc τ)) .vmem (.dma (copyS 1)) (.here oH)} :
    iprop(known m K ∗ holds c cc0_scratch1 (result m) ∗ (∃ f, holds c main_v1 f) ∗ dutyTok ER (cell c (cpy 1)) 0 c)
      ⊢ iprop((cred (tallyAt (cell c (cpy 1)) () nOut) -∗ run c r Q) -∗ run c (.op (.enqueueDma oV (.here oH) (.dma (copyS 1)) h₁ h₂ h₃) fun _ => r) Q) := by
  have key (f : main_v1.ty.Contents (Elt F)) :=
    Rounds.wp_copy_pointsTo (defs := defs₀ (F := F)) (Γ := .empty) 𝒱₀ ER (sched m) (c : Thread nD τ) none (κ := K (c, cpy 1))
    (src := oV) (dst := oH) (sem := .dma (copyS 1)) (q := fullShare) (fs := result m) (hsrc := h₁) (hdst := h₂) (hsem := h₃)
    (r := 0) (d := c) (fd := f) (k := fun _ => r) (Q := Q) (Es := Set.univ)
    (by rw [show ((c : Thread nD τ), SemLoc.dma (copyS 1)) = cell c (cpy 1) from rfl, duties_eq]; exact Finset.mem_singleton_self _)
    () nOut rfl (amount_eq m c (cpy 1) c)
    (by
      rw [show ((c : Thread nD τ), SemLoc.dma (copyS 1)) = cell c (cpy 1) from rfl, payload_eq, ← holds_eq, ← holds_eq]
      refine Entails.of_eq (congrArg (fun g => iprop(holds c main_v1 g ∗ holds c cc0_scratch1 (result m))) ?_)
      exact (View.write_whole_univ _ _ _).trans (View.read_whole _ _))
  simp only [holds_eq]
  iintro ⟨#HK, Hs, ⟨%f, Hd⟩, Ht⟩ Hk
  ihave ⟨#HI, #HR⟩ := (known_at m K c (cpy 1)) $$ HK
  iapply (key f) $$ [Hs Hd Ht]
  · isplitr; · iexact HI
    isplitl [Hs]; · iexact Hs
    isplitl [Hd]; · iexact Hd
    isplitl [Ht]; · iexact Ht
    iexact HR
  iexact Hk

/-! ## The parts -/

/-- The signals and the start of the copy in. -/
theorem part_in (r : P F) {Q : PUnit → sProp 𝕄} :
    iprop(known m K ∗ owesSome c (owed c)
        ∗ bigSep (others c) (fun d => iprop(dutyTok ER (cell d bar) 0 c ∗ (∃ f, rowPts c d fullShare f)))
        ∗ holds c main_arg0 (block m c) ∗ (∃ f, holds c cc0_scratch0 f) ∗ dutyTok ER (cell c (cpy 0)) 0 c)
      ⊢ iprop(((owesSome c (owedRows (others c) c) ∗ cred (tallyAt (cell c (cpy 0)) () nIn)) -∗ run c r Q) -∗ run c (progIn c r) Q) := by
  have key (r' : P F) := wp_signals m K c (Q := Q) (owedRows (others c) c) r' (sigDevs c) (sig_nodup c) (sig_ne c)
  rw [sig_set] at key
  unfold owed progIn
  iintro ⟨#HK, HO, Hb, Hx, Hv, Ht⟩ Hk
  iapply (key _) $$ [HO Hb]
  · isplitr; · iexact HK
    isplitl [HO] <;> iassumption
  iintro HO
  iapply (wp_copy_in m K c r) $$ [Hx Hv Ht]
  · isplitr; · iexact HK
    isplitl [Hx]; · iexact Hx
    isplitl [Hv] <;> iassumption
  iintro Hc
  iapply Hk
  isplitl [HO] <;> iassumption

/-- The block in, the barrier, and the sends. -/
theorem part_send {Q : PUnit → sProp 𝕄} :
    iprop(known m K ∗ levAts lev level ∗ owesSome c (owedRows (others c) c)
        ∗ cred (tallyAt (cell c (cpy 0)) () nIn) ∗ atPos ER (cell c (cpy 0)) 0 ∅ 0
        ∗ cred (tallyAt (cell c bar) () 7) ∗ atPos ER (cell c bar) 0 ∅ 0
        ∗ (∃ f, rowPts c c fullShare f)
        ∗ bigSep (others c) (fun d => iprop(dutyTok ER (cell c (snd d)) 0 c ∗ dutyTok ER (cell d (rcv c)) 0 c)))
      ⊢ iprop(((owesSome c 0 ∗ atPos ER (cell c (cpy 0)) 1 ∅ 0 ∗ atPos ER (cell c bar) 1 ∅ 0
              ∗ holds c cc0_scratch0 (block m c) ∗ holds c main_arg0 (block m c)
              ∗ rowPts c c rest (rows m) ∗ rowPts c c (piece c) (rows m)
              ∗ bigSep (others c) (fun d => cred (tallyAt (cell c (snd d)) () nRow))) -∗ Q ⟨⟩)
          -∗ run c (progSend c) Q) := by
  unfold progSend
  iintro ⟨#HK, #HL, HO, Hc, Ha, Hcb, Hab, ⟨%f, Hr⟩, Ht⟩ Hk
  iapply (wp_wait_all m K c (cpy 0) (n := nIn) (by rw [show dutySet c (cpy 0) = {c} from rfl, Finset.card_singleton, one_mul]; rfl) (owedRows (others c) c)
    (fun R => wpE_waitDma2_eq 𝒱₀ (c : Thread nD τ) none Set.univ R)) $$ [HO Hc Ha]
  · isplitr; · iexact HK
    isplitl [HO]; · iexact HO
    isplitr
    · iapply (mayWait c (cpy 0) (Nat.zero_le 1) (others c)); iexact HL
    isplitl [Hc] <;> iassumption
  rw [show dutySet c (cpy 0) = {c} from rfl, bigSep_singleton,
    show pay m c (cpy 0) c = iprop(holds c cc0_scratch0 (block m c) ∗ holds c main_arg0 (block m c)) from rfl]
  iintro ⟨HO, Ha, Hv, Hx⟩
  iapply (wp_load 𝒱₀ (c : Thread nD τ) none Set.univ (m := xV) (Finset.subset_univ _)) $$ Hv; iintro Hv
  rw [read_allX, sends_eq]
  iapply (wp_wait_all m K c bar (n := 7) (by rw [card_bar]; rfl) (owedRows (others c) c)
    (fun R => wpE_semWait_eq 𝒱₀ (c : Thread nD τ) none Set.univ R)) $$ [HO Hcb Hab]
  · isplitr; · iexact HK
    isplitl [HO]; · iexact HO
    isplitr
    · iapply (mayWait c bar (le_refl 1) (others c)); iexact HL
    isplitl [Hcb] <;> iassumption
  iintro ⟨HO, Hab, Hp⟩
  unfold rowPts
  iapply (wp_load 𝒱₀ (c : Thread nD τ) none Set.univ (m := cM) (S := (rowM c).view.set)
    (by rw [row_set]; exact (Finset.map_refl (s := (rowR c).set)).le)) $$ Hr; iintro Hr
  iapply (wp_store 𝒱₀ (c : Thread nD τ) none Set.univ (m := cM) (r := rowR c) (Mk := Finset.univ) (S := (rowM c).view.set)
    (by rw [View.setOn_univ, access_set, row_set])) $$ Hr; iintro Hr
  ihave Hr := (Entails.of_eq (pointsTo_congr (row_stored m c f))) $$ Hr
  ihave Hr := (row_cut (F := F) c c (rows m)) $$ [Hr]
  · unfold rowPts; iexact Hr
  rw [several_split c]
  icases Hr with ⟨Hr, Ho, Hs⟩
  have key := wp_sends m K c (Q := Q) (.ret ⟨⟩) (peers c) (peers_nodup c) (peers_ne c)
  rw [peers_set] at key
  iapply key $$ [HO Hs Ht Hp]
  · isplitr; · iexact HK
    isplitl [HO]; · iexact HO
    rw [several_sep (others c) (fun d => rowPts c c (piece d) (rows m)), several_sep (others c) (fun d => iprop(∃ f, rowPts d c fullShare f))]
    isplitl [Hs]; · iexact Hs
    isplitl [Hp]; · iexact Hp
    iexact Ht
  iintro ⟨Hcs, HO⟩
  rw [run_ret]; imodintro
  iapply Hk
  isplitl [HO]; · iexact HO
  isplitl [Ha]; · iexact Ha
  isplitl [Hab]; · iexact Hab
  isplitl [Hv]; · iexact Hv
  isplitl [Hx]; · iexact Hx
  isplitl [Hr]; · unfold rowPts; iexact Hr
  isplitl [Ho]; · unfold rowPts; iexact Ho
  iexact Hcs

/-- The rows in, and their maximum. -/
theorem part_recv {Q : PUnit → sProp 𝕄} :
    iprop(known m K ∗ owesSome c 0 ∗ rowPts c c rest (rows m) ∗ (∃ f, holds c cc0_scratch1 f)
        ∗ bigSep (others c) (fun s => iprop(cred (tallyAt (cell c (rcv s)) () nRow) ∗ atPos ER (cell c (rcv s)) 0 ∅ 0)))
      ⊢ iprop(((owesSome c 0 ∗ rowPts c c rest (rows m) ∗ holds c cc0_scratch1 (result m)
              ∗ bigSep (others c) (fun s => atPos ER (cell c (rcv s)) 1 ∅ 0) ∗ bigSep (others c) (fun s => rowPts c s fullShare (rows m))) -∗ Q ⟨⟩)
          -∗ run c (progRecv (place c)) Q) := by
  unfold progRecv
  rw [recvs_eq]
  iintro ⟨#HK, HO, Hr, ⟨%f, Ho⟩, Hw⟩ Hk
  have key (r : P F) := wp_waits m K c rcv recvS id (fun _ => rfl) (fun _ => rfl) id (Q := Q) r (places.filter (fun s => decide (s ≠ (c : Fin 8))))
    (waited_nodup c) (fun d hd => dutySet_rcv (waited_ne c d hd))
  rw [waited_set] at key
  iapply (key _) $$ [HO Hw]
  · isplitr; · iexact HK
    isplitl [HO] <;> iassumption
  rw [several_sep]
  iintro ⟨HO, Ha, Hp⟩
  ihave Hp : iprop(bigSep (others c) (fun s => rowPts c s fullShare (rows m))) $$ [Hp]
  · iexact Hp
  ihave Hl := (rows_lend c c (rows m)) $$ [Hr Hp]
  · isplitl [Hr] <;> iassumption
  icases Hl with ⟨Hl, Hback⟩
  iapply (wp_load 𝒱₀ (c : Thread nD τ) none Set.univ (m := cM) (Finset.subset_univ _)) $$ Hl; iintro Hl
  rw [read_allC]
  iapply (wp_load 𝒱₀ (c : Thread nD τ) none Set.univ (m := oV) (Finset.subset_univ _)) $$ Ho; iintro Ho
  iapply (wp_store 𝒱₀ (c : Thread nD τ) none Set.univ (m := oV) (r := allO) (Mk := Finset.univ) (Finset.subset_univ _)) $$ Ho; iintro Ho
  rw [write_allO, wp_ret]; imodintro
  ihave Hl := Hback $$ Hl
  icases Hl with ⟨Hr, Hp⟩
  iapply Hk
  isplitl [HO]; · iexact HO
  isplitl [Hr]; · iexact Hr
  isplitl [Ho]; · iexact Ho
  isplitl [Ha] <;> iassumption

/-- The copy out started, and the sends waited for. -/
theorem part_out {Q : PUnit → sProp 𝕄} :
    iprop(known m K ∗ owesSome c 0 ∗ holds c cc0_scratch1 (result m) ∗ (∃ f, holds c main_v1 f) ∗ dutyTok ER (cell c (cpy 1)) 0 c
        ∗ bigSep (others c) (fun d => iprop(cred (tallyAt (cell c (snd d)) () nRow) ∗ atPos ER (cell c (snd d)) 0 ∅ 0)))
      ⊢ iprop(((owesSome c 0 ∗ cred (tallyAt (cell c (cpy 1)) () nOut)
              ∗ bigSep (others c) (fun d => atPos ER (cell c (snd d)) 1 ∅ 0) ∗ bigSep (others c) (fun d => rowPts c c (piece d) (rows m))) -∗ Q ⟨⟩)
          -∗ run c (progOut (place c)) Q) := by
  unfold progOut
  rw [sents_eq]
  iintro ⟨#HK, HO, Hs, Hd, Ht, Hw⟩ Hk
  iapply (wp_copy_out m K c _) $$ [Hs Hd Ht]
  · isplitr; · iexact HK
    isplitl [Hs]; · iexact Hs
    isplitl [Hd] <;> iassumption
  iintro Hc
  have key := wp_waits m K c snd sendS (fun _ => 0) (fun _ => rfl) (fun _ => rfl) (fun _ => c) (Q := Q) (.ret ⟨⟩) (places.filter (fun s => decide (s ≠ (c : Fin 8))))
    (waited_nodup c) (fun d hd => dutySet_snd (waited_ne c d hd))
  rw [waited_set] at key
  iapply key $$ [HO Hw]
  · isplitr; · iexact HK
    isplitl [HO] <;> iassumption
  rw [several_sep]
  iintro ⟨HO, Ha, Hp⟩
  rw [run_ret]; imodintro
  iapply Hk
  isplitl [HO]; · iexact HO
  isplitl [Hc]; · iexact Hc
  isplitl [Ha]; · iexact Ha
  iexact Hp

end

end Cert.KernelIdeal.Max

end
-- ==== Proof.Ideal.Whole.lean ====
/-
# The whole body

A device's run of the body from what the launch deals it to what it leaves: the four parts one after the other, the last
wait, and every semaphore at zero.
-/
module

public import proofs.«01_k».proof.Proof.Ideal.Body
public import Idealize.ShloMosaic.Lib.Rounds.Family

@[expose] public section

noncomputable section

namespace Cert.KernelIdeal.Max

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Something of every semaphore of a device, kind by kind. -/
theorem over_kinds (Φ : Cl → sProp 𝕄) :
    bigSep Finset.univ Φ = iprop(Φ bar ∗ bigSep Finset.univ (fun d : Fin 8 => Φ (snd d)) ∗ bigSep Finset.univ (fun s : Fin 8 => Φ (rcv s))
      ∗ Φ (cpy 0) ∗ Φ (cpy 1)) := by
  have h : bigSep Finset.univ (fun a : Unit => Φ (.inl a)) = Φ bar := bigSep_univ_of_subsingleton ()
  rw [bigSep_univ_sum, h, bigSep_univ_sum, bigSep_univ_sum, bigSep_fin_two]
  rfl

/-- The round a semaphore of device `c` is at when the body ends: a semaphore nobody raises is never waited on. -/
def endRound (c : Fin 8) (k : Cl) : ℕ := if dutySet c k = ∅ then 0 else 1

theorem endRound_some {c p : Fin 8} {k : Cl} (h : p ∈ dutySet c k) : endRound c k = 1 :=
  if_neg fun e => absurd (e ▸ h) (Finset.notMem_empty p)
theorem endRound_none {c : Fin 8} {k : Cl} (h : dutySet c k = ∅) : endRound c k = 0 := if_pos h

theorem no_duty (c : Dev nD) (k : Cl) : ∀ r, endRound c k ≤ r → (sched (F := F) m).duties (cell c k) r = ∅ := by
  unfold endRound
  split
  · exact duties_none m c k ‹_›
  · exact duties_later m _

section
variable (K : Dev nD × Cl → ℕ) (c : Dev nD)

/-- The positions at the end, kind by kind. -/
theorem ends_eq : (bigSep Finset.univ (fun k : Cl => atPos ER (cell c k) (endRound c k) ∅ 0) : sProp 𝕄)
    = iprop(atPos ER (cell c bar) 1 ∅ 0
      ∗ (atPos ER (cell c (snd c)) 0 ∅ 0 ∗ bigSep (others c) (fun d => atPos ER (cell c (snd d)) 1 ∅ 0))
      ∗ (atPos ER (cell c (rcv c)) 0 ∅ 0 ∗ bigSep (others c) (fun s => atPos ER (cell c (rcv s)) 1 ∅ 0))
      ∗ atPos ER (cell c (cpy 0)) 1 ∅ 0 ∗ atPos ER (cell c (cpy 1)) 1 ∅ 0) := by
  have hb : endRound c bar = 1 := endRound_some (p := c + 1) (by revert c; decide)
  have hi : endRound c (cpy 0) = 1 := endRound_some (p := c) (Finset.mem_singleton_self _)
  have ho : endRound c (cpy 1) = 1 := endRound_some (p := c) (Finset.mem_singleton_self _)
  have hs : endRound c (snd c) = 0 := endRound_none (if_pos rfl)
  have hr : endRound c (rcv c) = 0 := endRound_none (if_pos rfl)
  have hs' : (bigSep (others c) (fun d => atPos ER (cell c (snd d)) (endRound c (snd d)) ∅ 0) : sProp 𝕄)
      = bigSep (others c) (fun d => atPos ER (cell c (snd d)) 1 ∅ 0) := bigSep_congr fun d hd => by
    rw [endRound_some (p := c) (by rw [dutySet_snd (Finset.ne_of_mem_erase hd)]; exact Finset.mem_singleton_self _)]
  have hr' : (bigSep (others c) (fun s => atPos ER (cell c (rcv s)) (endRound c (rcv s)) ∅ 0) : sProp 𝕄)
      = bigSep (others c) (fun s => atPos ER (cell c (rcv s)) 1 ∅ 0) := bigSep_congr fun s hd => by
    rw [endRound_some (p := s) (by rw [dutySet_rcv (Finset.ne_of_mem_erase hd)]; exact Finset.mem_singleton_self _)]
  rw [over_kinds, several_split c (fun d => atPos ER (cell c (snd d)) (endRound c (snd d)) ∅ 0),
    several_split c (fun s => atPos ER (cell c (rcv s)) (endRound c (rcv s)) ∅ 0), hb, hi, ho, hs, hr, hs', hr']

/-- Every semaphore back at zero. -/
theorem close_all : iprop(known m K ∗ bigSep Finset.univ (fun k : Cl => atPos ER (cell c k) (endRound c k) ∅ 0))
    ⊢ |={Set.univ}=> bigSep Finset.univ (fun k : Cl => semVal (cell c k) 0) := by
  have close := cells_close ER (sched (F := F) m) (Finset.univ : Finset Cl) (fun k => cell c k) (fun k => K (c, k)) (Es := Set.univ)
    (fun k _ => Set.mem_univ _) (fun k _ h => h) (endRound c) (fun k _ => no_duty m c k)
  refine .trans ?_ close
  rw [several_sep]
  iintro ⟨#HK, Ha⟩
  isplitr
  · have h : known m K ⊢ bigSep (Finset.univ : Finset Cl) (fun k => cellInv ER (sched (F := F) m) (K (c, k)) (cell c k)) :=
      (BI.bigSep_of_persistent Finset.univ (known m K)).trans (bigSep_mono fun k _ => (known_at m K c k).trans sep_elim_left)
    iapply h; iexact HK
  iexact Ha

/-! ## From what is dealt to what is left -/

/-- The tokens of the duties device `c` does. -/
def payToks : sProp 𝕄 :=
  iprop(bigSep (others c) (fun d => dutyTok ER (cell d bar) 0 c) ∗ bigSep (others c) (fun d => dutyTok ER (cell c (snd d)) 0 c)
    ∗ bigSep (others c) (fun d => dutyTok ER (cell d (rcv c)) 0 c) ∗ dutyTok ER (cell c (cpy 0)) 0 c ∗ dutyTok ER (cell c (cpy 1)) 0 c)

/-- What the others owe device `c`. -/
def credits : sProp 𝕄 :=
  iprop(cred (tallyAt (cell c bar) () 7) ∗ bigSep (others c) (fun s => cred (tallyAt (cell c (rcv s)) () nRow)))

/-- The kernel's own three buffers, with whatever is in them. -/
def scratch : sProp 𝕄 :=
  iprop((∃ f, holds c cc0_scratch0 f) ∗ (∃ f, holds c cc0_scratch1 f) ∗ (∃ f, holds c cc0_scratch2 f))

/-- What device `c` starts with, -/
def start : sProp 𝕄 :=
  iprop(known m K ∗ levAts lev level ∗ bigSep Finset.univ (fun k : Cl => atPos ER (cell c k) 0 ∅ 0) ∗ payToks c ∗ credits c
    ∗ holds c main_arg0 (block m c) ∗ (∃ f, holds c main_v1 f))

/-- and what it ends with. -/
def done : sProp 𝕄 :=
  iprop(holds c main_arg0 (block m c) ∗ holds c main_v1 (result m) ∗ bigSep Finset.univ (fun k : Cl => semVal (cell c k) 0))

theorem run_bind (p r : P F) (Q : PUnit → sProp 𝕄) : run c (Prog.bind p fun _ => r) Q = run c p (fun _ => run c r Q) := wp_bind _ _ _ p (fun _ => r) Q

/-- The rows of the buffer of rows, each with whatever is in it. -/
theorem rows_of_buffer : iprop(∃ f, holds c cc0_scratch2 f)
    ⊢ (iprop((∃ f, rowPts c c fullShare f) ∗ bigSep (others c) (fun d => iprop(∃ f, rowPts c d fullShare f))) : sProp 𝕄) := by
  iintro ⟨%f, H⟩
  ihave H := (Entails.of_eq ((rows_eq c fullShare f).trans (several_split c _))) $$ H
  icases H with ⟨H, Hs⟩
  isplitl [H]; · iexists f; iexact H
  have h₁ (d : Fin 8) : (rowPts c d fullShare f : sProp 𝕄) ⊢ iprop(∃ f, rowPts c d fullShare f) := by
    iintro H; iexists f; iexact H
  have h : (bigSep (others c) (fun d => rowPts c d fullShare f) : sProp 𝕄) ⊢ bigSep (others c) (fun d => iprop(∃ f, rowPts c d fullShare f)) :=
    bigSep_mono fun d _ => h₁ d
  iapply h; iexact Hs

/-- The buffer of rows again, from the device's own row in its pieces and the others' rows. -/
theorem buffer_of_rows : iprop(rowPts c c rest (rows m) ∗ rowPts c c (piece c) (rows m) ∗ bigSep (others c) (fun d => rowPts c c (piece d) (rows m))
      ∗ bigSep (others c) (fun s => rowPts c s fullShare (rows m)))
    ⊢ (iprop(∃ f, holds c cc0_scratch2 f) : sProp 𝕄) := by
  iintro ⟨H1, H2, H3, H4⟩
  iexists (rows m)
  iapply (Entails.of_eq ((rows_eq c fullShare (rows m)).trans (several_split c _)).symm)
  isplitl [H1 H2 H3]
  · iapply (row_whole c c (rows m))
    isplitl [H1]; · iexact H1
    iapply (Entails.of_eq (several_split c (fun i => rowPts c c (piece i) (rows m))).symm)
    isplitl [H2] <;> iassumption
  iexact H4

/-- The last wait, for the copy out. -/
theorem last_wait {Q : PUnit → sProp 𝕄} {h₁ : (oV : Memref sig .tc .vmem S1x256 .f32).view.WordExact} {h₂ : (oH : Memref sig .tc .hbm S1x256 .f32).view.WordExact} :
    iprop(known m K ∗ owesSome c 0 ∗ cred (tallyAt (cell c (cpy 1)) () nOut) ∗ atPos ER (cell c (cpy 1)) 0 ∅ 0)
      ⊢ iprop(((owesSome c 0 ∗ atPos ER (cell c (cpy 1)) 1 ∅ 0 ∗ holds c main_v1 (result m) ∗ holds c cc0_scratch1 (result m)) -∗ |={Set.univ}=> Q ⟨⟩)
          -∗ run c (.op (.waitDma2 (copyS 1) oV oH h₁ h₂) fun _ => .ret ⟨⟩) Q) := by
  iintro ⟨#HK, HO, Hc, Ha⟩ Hk
  iapply (wp_wait_all m K c (cpy 1) (n := nOut) (by rw [show dutySet c (cpy 1) = {c} from rfl, Finset.card_singleton, one_mul]; rfl) 0
    (fun R => wpE_waitDma2_eq 𝒱₀ (c : Thread nD τ) none Set.univ R)) $$ [HO Hc Ha]
  · isplitr; · iexact HK
    isplitl [HO]; · iexact HO
    isplitr; · rw [MayWait_zero]; iempintro
    isplitl [Hc] <;> iassumption
  rw [show dutySet c (cpy 1) = {c} from rfl, bigSep_singleton,
    show pay m c (cpy 1) c = iprop(holds c main_v1 (result m) ∗ holds c cc0_scratch1 (result m)) from rfl, run_ret]
  iexact Hk

set_option maxHeartbeats 1000000 in
/-- The body. -/
theorem sound_body {Q : PUnit → sProp 𝕄} :
    iprop(start m K c ∗ scratch c ∗ owesSome c (owed c)) ⊢ iprop(((done m c ∗ scratch c ∗ owesSome c 0) -∗ Q ⟨⟩) -∗ run c prog Q) := by
  have hp : run c prog Q = run c (progIn c ((progSend c).bind fun _ => (progRecv (place c)).bind fun _ => progOut (place c)))
      (fun _ => run c (.op (.waitDma2 (copyS 1) oV oH (Memref.isWhole_whole _).wordExact (Memref.isWhole_whole _).wordExact) fun _ => .ret ⟨⟩) Q) := by
    unfold prog
    exact (run_bind c _ _ Q).trans (wp_deviceId ..)
  rw [hp]
  unfold start scratch done payToks credits
  rw [over_kinds, several_split c (fun d => atPos ER (cell c (snd d)) 0 ∅ 0), several_split c (fun s => atPos ER (cell c (rcv s)) 0 ∅ 0)]
  iintro ⟨⟨#HK, #HL, ⟨Hab, ⟨Has, Hass⟩, ⟨Har, Hars⟩, Hai, Hao⟩, ⟨Htb, Hts, Htr, Hti, Hto⟩, ⟨Hcb, Hcr⟩, Hx, Hv⟩, ⟨Hs0, Hs1, Hs2⟩, HO⟩ Hk
  ihave Hs2 := (rows_of_buffer c) $$ Hs2
  icases Hs2 with ⟨Hrow, Hrows⟩
  iapply (part_in m K c _) $$ [HO Htb Hrows Hx Hs0 Hti]
  · isplitr; · iexact HK
    isplitl [HO]; · iexact HO
    isplitl [Htb Hrows]
    · rw [several_sep (others c) (fun d => dutyTok ER (cell d bar) 0 c)]
      isplitl [Htb] <;> iassumption
    isplitl [Hx]; · iexact Hx
    isplitl [Hs0] <;> iassumption
  iintro ⟨HO, Hci⟩
  iapply (Entails.of_eq (run_bind c (progSend c) _ _).symm)
  iapply (part_send m K c) $$ [HO Hci Hai Hcb Hab Hrow Hts Htr]
  · isplitr; · iexact HK
    isplitr; · iexact HL
    isplitl [HO]; · iexact HO
    isplitl [Hci]; · iexact Hci
    isplitl [Hai]; · iexact Hai
    isplitl [Hcb]; · iexact Hcb
    isplitl [Hab]; · iexact Hab
    isplitl [Hrow]; · iexact Hrow
    rw [several_sep (others c) (fun d => dutyTok ER (cell c (snd d)) 0 c)]
    isplitl [Hts] <;> iassumption
  iintro ⟨HO, Hai, Hab, Hs0, Hx, Hrest, Hpiece, Hcs⟩
  iapply (Entails.of_eq (run_bind c (progRecv (place c)) _ _).symm)
  iapply (part_recv m K c) $$ [HO Hrest Hs1 Hcr Hars]
  · isplitr; · iexact HK
    isplitl [HO]; · iexact HO
    isplitl [Hrest]; · iexact Hrest
    isplitl [Hs1]; · iexact Hs1
    rw [several_sep (others c) (fun s => cred (tallyAt (cell c (rcv s)) () nRow))]
    isplitl [Hcr] <;> iassumption
  iintro ⟨HO, Hrest, Hs1, Hars, Hrows⟩
  iapply (part_out m K c) $$ [HO Hs1 Hv Hto Hcs Hass]
  · isplitr; · iexact HK
    isplitl [HO]; · iexact HO
    isplitl [Hs1]; · iexact Hs1
    isplitl [Hv]; · iexact Hv
    isplitl [Hto]; · iexact Hto
    rw [several_sep (others c) (fun d => cred (tallyAt (cell c (snd d)) () nRow))]
    isplitl [Hcs] <;> iassumption
  iintro ⟨HO, Hco, Hass, Hpieces⟩
  iapply (last_wait m K c) $$ [HO Hco Hao]
  · isplitr; · iexact HK
    isplitl [HO]; · iexact HO
    isplitl [Hco] <;> iassumption
  iintro ⟨HO, Hao, Hv, Hs1⟩
  imod (close_all m K c) $$ [Hab Has Hass Har Hars Hai Hao] with Hz
  · isplitr; · iexact HK
    iapply (Entails.of_eq (ends_eq c).symm)
    isplitl [Hab]; · iexact Hab
    isplitl [Has Hass]; · isplitl [Has] <;> iassumption
    isplitl [Har Hars]; · isplitl [Har] <;> iassumption
    isplitl [Hai] <;> iassumption
  imodintro
  iapply Hk
  isplitl [Hx Hv Hz]
  · isplitl [Hx]; · iexact Hx
    isplitl [Hv]; · iexact Hv
    iexact Hz
  isplitr [HO]
  · isplitl [Hs0]; · iexists (block m c); iexact Hs0
    isplitl [Hs1]; · iexists (result m); iexact Hs1
    iapply (buffer_of_rows m c)
    isplitl [Hrest]; · iexact Hrest
    isplitl [Hpiece]; · iexact Hpiece
    isplitl [Hpieces] <;> iassumption
  iexact HO

end

end Cert.KernelIdeal.Max

end
-- ==== Proof.Ideal.Deal.lean ====
/-
# What the launch deals, and the deal

At launch every semaphore of every device gets its schedule, its owner's position and one token per duty. Positions stay
with the device whose semaphore it is; a duty's token goes to the device that does the duty.
-/
module

public import proofs.«01_k».proof.Proof.Ideal.Whole

@[expose] public section

noncomputable section

namespace Cert.KernelIdeal.Max

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The tokens -/

theorem cell_inj {c c' : Dev nD} {k k' : Cl} : cell c k = cell c' k' ↔ c = c' ∧ k = k' :=
  ⟨fun h => ⟨congrArg (fun g : GSem nD τ sig => g.1.1) h, semOf_bijective.1 (congrArg Prod.snd h)⟩, fun h => by rw [h.1, h.2]⟩

/-- Every semaphore of every device, -/
def allCells : Finset (GSem nD τ sig) :=
  Finset.univ.map ⟨fun x : Dev nD × Cl => cell x.1 x.2, fun x y h => Prod.ext (cell_inj.mp h).1 (cell_inj.mp h).2⟩

/-- and every duty of each. -/
def allToks : Finset (GSem nD τ sig × ℕ × Fin 8) :=
  (Finset.univ.filter fun x : (Dev nD × Cl) × Fin 8 => x.2 ∈ dutySet x.1.1 x.1.2).map
    ⟨fun x => (cell x.1.1 x.1.2, 0, x.2), fun x y h => by
      have h₁ := cell_inj.mp (congrArg Prod.fst h)
      exact Prod.ext (Prod.ext h₁.1 h₁.2) (congrArg (fun z : GSem nD τ sig × ℕ × Fin 8 => z.2.2) h)⟩

/-- The token of `p`'s duty to semaphore `k` of device `c`, if it has one. -/
def tokIf (c : Dev nD) (k : Cl) (p : Fin 8) : sProp 𝕄 := if p ∈ dutySet c k then dutyTok ER (cell c k) 0 p else BI.emp

theorem tokIf_of {c : Dev nD} {k : Cl} {p : Fin 8} (h : p ∈ dutySet c k) : (tokIf c k p : sProp 𝕄) = dutyTok ER (cell c k) 0 p := if_pos h

theorem cells_dealt (Φ : GSem nD τ sig → sProp 𝕄) :
    bigSep allCells Φ = bigSep Finset.univ fun c : Dev nD => bigSep Finset.univ fun k : Cl => Φ (cell c k) := by
  unfold allCells; rw [bigSep_map, bigSep_univ_prod]; rfl

theorem toks_dealt : (bigSep allToks (fun x => dutyTok ER x.1 x.2.1 x.2.2) : sProp 𝕄)
    = bigSep Finset.univ fun c : Dev nD => bigSep Finset.univ fun k : Cl => bigSep Finset.univ fun p : Fin 8 => tokIf c k p := by
  unfold allToks
  rw [bigSep_map, bigSep_filter, bigSep_univ_prod, bigSep_univ_prod]; rfl

/-- Each duty's token to the device that does it. -/
theorem toks_around : (bigSep Finset.univ fun c : Dev nD => bigSep Finset.univ fun k : Cl => bigSep Finset.univ fun p : Fin 8 => (tokIf c k p : sProp 𝕄))
    = bigSep Finset.univ fun p : Fin 8 => bigSep Finset.univ fun c : Dev nD => bigSep Finset.univ fun k : Cl => tokIf c k p := by
  rw [bigSep_congr fun (c : Dev nD) _ => bigSep_univ_comm (fun (k : Cl) (p : Fin 8) => (tokIf c k p : sProp 𝕄)), bigSep_univ_comm]

/-- What `p` is dealt from its own semaphores, -/
theorem toks_own (p : Dev nD) : (bigSep Finset.univ fun k : Cl => (tokIf p k p : sProp 𝕄))
    ⊢ iprop(bigSep (others p) (fun d => dutyTok ER (cell p (snd d)) 0 p) ∗ dutyTok ER (cell p (cpy 0)) 0 p ∗ dutyTok ER (cell p (cpy 1)) 0 p) := by
  have hs : (bigSep (others p) (fun d => tokIf p (snd d) p) : sProp 𝕄) = bigSep (others p) (fun d => dutyTok ER (cell p (snd d)) 0 p) :=
    bigSep_congr fun d hd => tokIf_of (by rw [dutySet_snd (Finset.ne_of_mem_erase hd)]; exact Finset.mem_singleton_self _)
  rw [over_kinds, several_split p (fun d => tokIf p (snd d) p), hs, tokIf_of (k := cpy 0) (Finset.mem_singleton_self p),
    tokIf_of (k := cpy 1) (Finset.mem_singleton_self p)]
  iintro ⟨-, ⟨-, Hs⟩, -, Hi, Ho⟩
  isplitl [Hs]; · iexact Hs
  isplitl [Hi] <;> iassumption

/-- and from another device's. -/
theorem toks_other (p d : Dev nD) (hd : d ≠ p) : (bigSep Finset.univ fun k : Cl => (tokIf d k p : sProp 𝕄))
    ⊢ iprop(dutyTok ER (cell d bar) 0 p ∗ dutyTok ER (cell d (rcv p)) 0 p) := by
  rw [over_kinds, several_split p (fun s => tokIf d (rcv s) p), tokIf_of (k := bar) (Finset.mem_erase.mpr ⟨hd.symm, Finset.mem_univ p⟩),
    tokIf_of (k := rcv p) (by rw [dutySet_rcv hd.symm]; exact Finset.mem_singleton_self _)]
  iintro ⟨Hb, -, ⟨Hr, -⟩, -, -⟩
  isplitl [Hb] <;> iassumption

theorem toks_paid (p : Dev nD) : (bigSep Finset.univ fun c : Dev nD => bigSep Finset.univ fun k : Cl => (tokIf c k p : sProp 𝕄)) ⊢ payToks p := by
  have h : (bigSep (others p) (fun c => bigSep Finset.univ fun k : Cl => tokIf c k p) : sProp 𝕄)
      ⊢ bigSep (others p) (fun d => iprop(dutyTok ER (cell d bar) 0 p ∗ dutyTok ER (cell d (rcv p)) 0 p)) :=
    bigSep_mono fun d hd => toks_other p d (Finset.ne_of_mem_erase hd)
  rw [several_sep] at h
  rw [several_split p (fun c => bigSep Finset.univ fun k : Cl => tokIf c k p)]
  unfold payToks
  iintro ⟨Ho, Hr⟩
  ihave Ho := (toks_own p) $$ Ho
  ihave Hr := h $$ Hr
  icases Ho with ⟨Hs, Hi, Ho⟩
  icases Hr with ⟨Hb, Hr⟩
  isplitl [Hb]; · iexact Hb
  isplitl [Hs]; · iexact Hs
  isplitl [Hr]; · iexact Hr
  isplitl [Hi] <;> iassumption

/-! ## The schedules -/

/-- What the launch's ghost state deals device `c`. -/
def dealt (c : Dev nD) : sProp 𝕄 :=
  iprop((bigSep Finset.univ fun k : Cl => roundState ER (sched m) (cell c k) 0)
    ∗ (bigSep Finset.univ fun k : Cl => reached ER (cell c k) 0)
    ∗ (bigSep Finset.univ fun k : Cl => atPos ER (cell c k) 0 ∅ 0)
    ∗ bigSep Finset.univ fun k : Cl => bigSep Finset.univ fun p : Fin 8 => tokIf c k p)

/-- What each device has of it once all schedules are shared. -/
def shared (c : Dev nD) : sProp 𝕄 := iprop(∃ K, known m K ∗ bigSep Finset.univ (fun k : Cl => atPos ER (cell c k) 0 ∅ 0) ∗ payToks c)

/-- Several pairs, one per device. -/
theorem devices_sep (Φ Ψ : Dev nD → sProp 𝕄) :
    bigSep Finset.univ (fun c => iprop(Φ c ∗ Ψ c)) = iprop(bigSep Finset.univ Φ ∗ bigSep Finset.univ Ψ) := bigSep_sep _ Φ Ψ

theorem deal : BI.own (ER (initOf allCells allToks)) ⊢ (|==> bigSep Finset.univ (dealt m) : sProp 𝕄) := by
  unfold dealt
  rw [devices_sep, devices_sep, devices_sep]
  iintro HX
  imod (Rounds.fund ER (sched m) allCells allToks) $$ HX with ⟨Hst, Hr, Hat, Htok⟩
  imodintro
  isplitl [Hst]; · iapply (Entails.of_eq (cells_dealt fun g => roundState ER (sched m) g 0)); iexact Hst
  isplitl [Hr]; · iapply (Entails.of_eq (cells_dealt fun g => reached ER g 0)); iexact Hr
  isplitl [Hat]; · iapply (Entails.of_eq (cells_dealt fun g => atPos ER g 0 ∅ 0)); iexact Hat
  iapply (Entails.of_eq toks_dealt); iexact Htok

/-- The kernel's own semaphores: all but the barrier. -/
abbrev ownSem : Fin 8 ⊕ Fin 8 ⊕ Fin 2 → SemLoc sig := fun k => semOf (.inr k)

abbrev own0 (c : Dev nD) : sProp 𝕄 := Pipeline.ownSems0 (Ix := Unit) (Name := ℕ) (U := UU) (Lvl := ℕ) (Val := Elt F) (τ := τ) ownSem c

theorem barrier0_eq (c : Dev nD) : (unscopedSems0 c : sProp 𝕄) = semVal (cell c bar) 0 := by
  unfold unscopedSems0
  rw [bigSep_eq_bigSepL_of_eq [SemLoc.reg barS] (by decide) (by decide)]; rfl

/-- The kernel's own semaphores and the barrier are all of a device's. -/
theorem sems0_eq (c : Dev nD) : (bigSep Finset.univ (fun k : Cl => semVal (cell c k) 0) : sProp 𝕄)
    = iprop(unscopedSems0 c ∗ own0 c) := by
  have h : bigSep Finset.univ (fun a : Unit => (semVal (cell c (.inl a)) 0 : sProp 𝕄)) = semVal (cell c bar) 0 := bigSep_univ_of_subsingleton ()
  rw [bigSep_univ_sum, h, barrier0_eq]; rfl

/-- One device's semaphores, each put under its schedule. -/
theorem share_one (c : Dev nD) : iprop(own0 c ∗ unscopedSems0 c ∗ dealt m c)
    ⊢ |={Set.univ}=> iprop((bigSep Finset.univ fun k : Cl => iprop(∃ κ : ℕ, cellInv ER (sched m) κ (cell c k) ∗ reached ER (cell c k) 0))
        ∗ (bigSep Finset.univ fun k : Cl => atPos ER (cell c k) 0 ∅ 0)
        ∗ bigSep Finset.univ fun k : Cl => bigSep Finset.univ fun p : Fin 8 => tokIf c k p) := by
  have one (k : Cl) : iprop((semVal (cell c k) 0 ∗ roundState ER (sched m) (cell c k) 0) ∗ reached ER (cell c k) 0)
      ⊢ (|={Set.univ}=> iprop(∃ κ : ℕ, cellInv ER (sched m) κ (cell c k) ∗ reached ER (cell c k) 0) : sProp 𝕄) := by
    iintro ⟨H, Hr⟩
    imod ((Rounds.body_intro ER (sched m) (cell c k)).trans inv_alloc) $$ H with ⟨%κ, Hi⟩
    imodintro
    iexists κ
    isplitl [Hi] <;> iassumption
  have all : iprop(((bigSep Finset.univ fun k : Cl => semVal (cell c k) 0) ∗ bigSep Finset.univ fun k : Cl => roundState ER (sched m) (cell c k) 0)
        ∗ bigSep Finset.univ fun k : Cl => reached ER (cell c k) 0)
      ⊢ (|={Set.univ}=> bigSep Finset.univ fun k : Cl => iprop(∃ κ : ℕ, cellInv ER (sched m) κ (cell c k) ∗ reached ER (cell c k) 0) : sProp 𝕄) := by
    rw [← several_sep, ← several_sep]
    exact (bigSep_mono fun k _ => one k).trans (bigSep_fupd _ _)
  rw [sems0_eq] at all
  unfold dealt
  iintro ⟨Ho, Hb, Hst, Hr, Hat, Htok⟩
  imod all $$ [Ho Hb Hst Hr] with Hi
  · isplitr [Hr]
    · isplitr [Hst]
      · isplitl [Hb] <;> iassumption
      iexact Hst
    iexact Hr
  imodintro
  isplitl [Hi]; · iexact Hi
  isplitl [Hat] <;> iassumption

/-- All schedules known to all, and each duty's token with the device that does it. -/
theorem regroup : (bigSep Finset.univ fun c : Dev nD => iprop((bigSep Finset.univ fun k : Cl => iprop(∃ κ : ℕ, cellInv ER (sched m) κ (cell c k) ∗ reached ER (cell c k) 0))
        ∗ (bigSep Finset.univ fun k : Cl => atPos ER (cell c k) 0 ∅ 0)
        ∗ bigSep Finset.univ fun k : Cl => bigSep Finset.univ fun p : Fin 8 => tokIf c k p) : sProp 𝕄)
    ⊢ bigSep Finset.univ (shared m) := by
  rw [devices_sep, devices_sep, toks_around, ← bigSep_univ_prod (fun x : Dev nD × Cl => iprop(∃ κ : ℕ, cellInv ER (sched (F := F) m) κ (cell x.1 x.2) ∗ reached ER (cell x.1 x.2) 0))]
  iintro ⟨HI, Hat, Htok⟩
  ihave HK := (BI.bigSep_exists_pi Finset.univ (fun (x : Dev nD × Cl) (κ : ℕ) => (iprop(cellInv ER (sched m) κ (cell x.1 x.2) ∗ reached ER (cell x.1 x.2) 0) : sProp 𝕄))) $$ HI
  icases HK with ⟨%K, HK⟩
  have hk : (bigSep Finset.univ (fun x : Dev nD × Cl => iprop(cellInv ER (sched (F := F) m) (K x) (cell x.1 x.2) ∗ reached ER (cell x.1 x.2) 0))) ⊢ bigSep (Finset.univ : Finset (Dev nD)) (fun _ => known m K) :=
    BI.bigSep_of_persistent Finset.univ (known m K)
  have ht : (bigSep Finset.univ fun p : Fin 8 => bigSep Finset.univ fun c : Dev nD => bigSep Finset.univ fun k : Cl => (tokIf c k p : sProp 𝕄))
      ⊢ bigSep (Finset.univ : Finset (Dev nD)) payToks := bigSep_mono fun p _ => toks_paid p
  have one (c : Dev nD) : iprop(known m K ∗ (bigSep Finset.univ fun k : Cl => atPos ER (cell c k) 0 ∅ 0) ∗ payToks c) ⊢ shared m c := by
    unfold shared
    iintro H; iexists K; iexact H
  have join : iprop((bigSep (Finset.univ : Finset (Dev nD)) fun _ => known m K) ∗ (bigSep Finset.univ fun c : Dev nD => bigSep Finset.univ fun k : Cl => atPos ER (cell c k) 0 ∅ 0) ∗ bigSep Finset.univ payToks)
      ⊢ (bigSep Finset.univ (shared m) : sProp 𝕄) := by
    rw [← devices_sep, ← devices_sep]; exact bigSep_mono fun c _ => one c
  ihave HK := hk $$ HK
  ihave Ht := ht $$ Htok
  iapply join
  isplitl [HK]; · iexact HK
  isplitl [Hat] <;> iassumption

theorem share_all : (bigSep Finset.univ fun c : Dev nD => iprop(own0 c ∗ unscopedSems0 c ∗ dealt m c) : sProp 𝕄)
    ⊢ |={Set.univ}=> bigSep Finset.univ (shared m) :=
  ((bigSep_mono fun c _ => share_one m c).trans (bigSep_fupd _ _)).trans (BI.fupd_mono (regroup m))

/-! ## The credits -/

theorem tally_sum (s : Finset (Fin 8)) (k k' : Cl) (c : Dev nD) (n : ℕ) :
    (∑ e ∈ s, tallyAt (cell e k') () n : CellTallies nD τ sig Unit) (cell c k) () = if k = k' ∧ c ∈ s then n else 0 := by
  rw [Finset.sum_apply, Finsupp.finset_sum_apply]
  by_cases hk : k = k'
  · subst hk
    rw [Finset.sum_congr rfl fun e _ => show (tallyAt (cell e k) () n : CellTallies nD τ sig Unit) (cell c k) () = if c = e then n else 0 by
      rw [tallyAt_apply]; simp [cell_inj], Finset.sum_ite_eq]
    simp
  · rw [if_neg fun h => hk h.1]
    exact Finset.sum_eq_zero fun e _ => by rw [tallyAt_apply, if_neg fun h => hk (cell_inj.mp h.1).2]

theorem owed_at (d c : Dev nD) (k : Cl) :
    owed d (cell c k) () = (if k = rcv d ∧ c ∈ others d then nRow else 0) + if k = bar ∧ c ∈ others d then 1 else 0 := by
  unfold owed owedRows owedBars
  rw [Pi.add_apply, Finsupp.add_apply, tally_sum, tally_sum]

theorem owed_bar (c : Dev nD) : ∑ d : Dev nD, owed d (cell c bar) () = 7 := by
  rw [Finset.sum_congr rfl fun d _ => (owed_at d c bar).trans (by rw [if_neg fun h => nomatch h.1, Nat.zero_add])]
  revert c; decide

theorem owed_rcv (c : Dev nD) (s : Fin 8) (hs : s ≠ c) : ∑ d : Dev nD, owed d (cell c (rcv s)) () = nRow := by
  have h (d : Dev nD) : owed d (cell c (rcv s)) () = if rcv s = rcv d ∧ c ∈ others d then nRow else 0 := by
    rw [owed_at, if_neg (c := rcv s = bar ∧ c ∈ others d) fun h => nomatch h.1]; exact Nat.add_zero _
  rw [Finset.sum_congr rfl fun d _ => h d,
    Finset.sum_eq_single s (fun d _ hd => if_neg fun h => hd (by simpa using h.1.symm)) fun h => absurd (Finset.mem_univ s) h]
  exact if_pos ⟨rfl, Finset.mem_erase.mpr ⟨hs.symm, Finset.mem_univ c⟩⟩

theorem launch_at (c : Dev nD) (k : Cl) (n : ℕ) (h : ∑ d : Dev nD, owed d (cell c k) () = n) :
    tallyOn (cell c k) (launchCredit (Pipeline.owing owed) 0 (cell c k)) = (tallyAt (cell c k) () n : CellTallies nD τ sig Unit) := by
  unfold tallyAt; refine congrArg _ (Finsupp.ext fun u => ?_); cases u
  rw [Pipeline.launchCredit_owing, Finsupp.single_eq_same, h]

theorem launch_credits (c : Dev nD) : (Pipeline.launchCred owed c : sProp 𝕄) ⊢ credits c := by
  unfold Pipeline.launchCred credits
  have hr : (bigSep (others c) (fun s => cred (tallyOn (cell c (rcv s)) (launchCredit (Pipeline.owing owed) 0 (cell c (rcv s))))) : sProp 𝕄)
      = bigSep (others c) (fun s => cred (tallyAt (cell c (rcv s)) () nRow)) :=
    bigSep_congr fun s hs => by rw [launch_at c (rcv s) nRow (owed_rcv c s (Finset.ne_of_mem_erase hs))]
  have he : (bigSep Finset.univ (fun sm : SemLoc sig => cred (tallyOn ((c : Thread nD τ), sm) (launchCredit (Pipeline.owing owed) 0 ((c : Thread nD τ), sm)))) : sProp 𝕄)
      = bigSep Finset.univ fun k : Cl => cred (tallyOn (cell c k) (launchCredit (Pipeline.owing owed) 0 (cell c k))) := bigSep_univ_equiv semEquiv _
  rw [he, over_kinds, several_split c (fun s => cred (tallyOn (cell c (rcv s)) (launchCredit (Pipeline.owing owed) 0 (cell c (rcv s))))), hr,
    launch_at c bar 7 (owed_bar c)]
  iintro ⟨Hb, -, ⟨-, Hr⟩, -, -⟩
  isplitl [Hb] <;> iassumption

end Cert.KernelIdeal.Max

end
-- ==== Proof.Ideal.Launch.lean ====
/-
# The run

Every execution from zero counters ends with every device's result the maximum of the eight rows, its block of `x` as it
was, and every counter zero: the launch theorem at the body's rule and the deal.
-/
module

public import proofs.«01_k».proof.Proof.Ideal.Deal
public import Idealize.ShloMosaic.Lib.Quiescent
public import Idealize.ShloMosaic.Lib.Pipeline.CollectiveSegs

@[expose] public section

noncomputable section

namespace Cert.KernelIdeal.Max

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body's proof data -/

/-- What device `c` holds before the body, but for its scratch, -/
def before (c : Dev nD) : sProp 𝕄 := iprop(∃ K, start m K c)
def Φ₀ (c : Dev nD) : sProp 𝕄 := iprop(before m c ∗ scratch c)
/-- and after it. -/
def Φ₁ (c : Dev nD) : sProp 𝕄 := iprop(done m c ∗ scratch c)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => owed c
    | ⟨_ + 1, _⟩ => 0

/-- The kernel has no blocks to stage. -/
theorem no_blocks (Φ : Fin cfg0.W → sProp 𝕄) : bigSep Finset.univ Φ = BI.emp := by
  rw [show (Finset.univ : Finset (Fin cfg0.W)) = ∅ from rfl, bigSep_empty]

theorem body_obligation (c : Dev nD) : BodyObligation (dats (F := F) m 0 c) (defs₀ (F := F)) 𝒱₀ () Set.univ := fun t => by
  rw [fin_N0 t, no_blocks, no_blocks]
  show iprop(Φ₀ m c ∗ (dats m 0 c).owesAt () t0_0.castSucc ∗ BI.emp)
    ⊢ run c (bodyAt0 (F := F) t0_0) fun _ => iprop(Φ₁ m c ∗ (dats m 0 c).owesAt () t0_0.succ ∗ BI.emp)
  rw [body_eq]
  unfold Φ₀ Φ₁ before Dat.owesAt Pipeline.owesWithin
  rw [show (dats m 0 c).owed t0_0.castSucc = owed c from rfl, show (dats m 0 c).owed t0_0.succ = 0 from rfl]
  iintro ⟨⟨⟨%K, Hs⟩, Hb⟩, ⟨%W, %hW, HO⟩, -⟩
  iapply (sound_body m K c) $$ [Hs Hb HO]
  · isplitl [Hs]; · iexact Hs
    isplitl [Hb]; · iexact Hb
    unfold owesSome
    iexists W; iexact HO
  unfold owesSome
  iintro ⟨Hd, Hb, ⟨%W', HO⟩⟩
  isplitl [Hd Hb]
  · isplitl [Hd] <;> iassumption
  isplitl [HO]
  · iexists W'
    isplitr; · ipureintro; exact fun _ _ => Or.inl trivial
    iexact HO
  iempintro

/-! ## The launch -/

theorem ownSemFacts : Pipeline.OwnSemFacts cfg0.spec ownSem := by decide

def u₀ : UU := (initOf (Pipeline.cells cfgs cellOf_inj) (Pipeline.launchToks cfgs cellOf_inj), initOf allCells allToks)

theorem before_intro (c : Dev nD) :
    iprop(Pipeline.unscopedRestP Pipeline.Prefetch.none cfg0.spec c (fun b => m ((c : Thread nD τ).loc b)) ∗ levAts lev level
        ∗ Pipeline.launchCred owed c ∗ prngReg c (ρ c) ∗ shared m c)
      ⊢ |={Set.univ}=> iprop(before m c ∗ emp) := by
  rw [Pipeline.unscopedRestP_none, unscopedRest0_eq]
  unfold shared before start
  iintro ⟨⟨Hx, Hv⟩, Hl, Hc, -, ⟨%K, HK, Ha, Ht⟩⟩
  ihave Hc := (launch_credits c) $$ Hc
  imodintro
  isplitl
  · iexists K
    isplitl [HK]; · iexact HK
    isplitl [Hl]; · iexact Hl
    isplitl [Ha]; · iexact Ha
    isplitl [Ht]; · iexact Ht
    isplitl [Hc]; · iexact Hc
    isplitl [Hx]; · iexact Hx
    iexists (m ((c : Thread nD τ).loc main_v1)); iexact Hv
  · iempintro

theorem phi0_intro (c : Dev nD) :
    iprop(before m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hb⟩
  isplitl [Hs] <;> iassumption

/-- What is kept of a device's end: its arrays and the barrier's counter. -/
def kept (c : Dev nD) : sProp 𝕄 := iprop(holds c main_arg0 (block m c) ∗ holds c main_v1 (result m) ∗ unscopedSems0 c)

theorem phi1_exit (c : Dev nD) :
    (dats m 0 c).Φ (Fin.last cfg0.N) ⊢ iprop(kept m c ∗ own0 c ∗ Pipeline.scopedRest cfg0.spec c) := by
  rw [show (dats m 0 c).Φ (Fin.last cfg0.N) = Φ₁ m c from rfl, scopedRest0_eq]
  unfold Φ₁ done kept scratch
  rw [sems0_eq]
  iintro ⟨⟨Hx, Hv, Hb, Ho⟩, Hs⟩
  isplitl [Hx Hv Hb]
  · isplitl [Hx]; · iexact Hx
    isplitl [Hv] <;> iassumption
  isplitl [Ho] <;> iassumption

/-- What a device's end says of the memory. -/
def atEnd (c : Dev nD) (s : MemSt nD τ sig (Elt F)) : Prop :=
  s.mem ((c : Thread nD τ).loc main_arg0) = block m c ∧ s.mem ((c : Thread nD τ).loc main_v1) = result m
    ∧ ∀ sm : SemLoc sig, sm.isScoped .tc = false → s.sem ((c : Thread nD τ), sm) = 0

theorem kept_read (c : Dev nD) (s' : Phys nD τ sig (Elt F)) :
    iprop(kept m c ∗ emp ∗ SI s') ⊢ |={Set.univ}=> iprop(⌜atEnd m c s'.mem⌝ ∗ SI s') := by
  unfold kept
  iintro ⟨⟨Hx, Hv, Hu⟩, -, HSI⟩
  icombine HSI Hx gives %hx
  icombine HSI Hv gives %hv
  imod (Pipeline.unscopedSems0_read (X := unscopedSems0 c) (c := c) fupd_intro s') $$ [Hu HSI] with ⟨%hu, HSI⟩
  · isplitl [Hu] <;> iassumption
  imodintro
  isplitr; · ipureintro; exact ⟨Buf.eq_of_forall_mem_univ hx, Buf.eq_of_forall_mem_univ hv, hu⟩
  iexact HSI

set_option maxRecDepth 8000 in
/-- Every execution of the kernel from zero counters ends with each device's block as it was, the result on every device,
    and every counter zero. -/
theorem run_all : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = result m) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := owed) (howed₀ := fun _ => rfl) (howedN := fun _ => rfl)
    (L := lev) (lv := level) (hL := lev_of_ne) (hwaits := fun c => Pipeline.cellsWaits_intro cfgs (dats m) () 0 c fun w _ _ => w.elim0)
    (G := dealt m) (G' := shared m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := share_all m)
    (hA := fun _ _ => rfl) (hpf := fun _ k => k.elim0)
    (X := before m) (Y := kept m) (Z := fun _ => iprop(emp))
    (hX := before_intro m ρ) (hin := phi0_intro m) (hout := phi1_exit m)
    (QY := atEnd m) (hY := kept_read m)
    (hQ := fun _ h hs => ⟨fun c => ⟨(h c).2.2.1, (h c).2.2.2.1⟩, sem_eq_zero hs fun c => (h c).2.2.2.2⟩)

end Cert.KernelIdeal.Max

end
-- ==== Proof.Float.Run.lean ====
/-
# The kernel as compiled

The kernel's text and the text of its idealization are the same, word for word: nothing was replaced. So what is proved of
the one's executions at any float values is proved of the other's.
-/
module

public import proofs.«01_k».proof.Proof.Ideal.Launch
public import proofs.«01_k».proof.Proof.Gen.Kernel.Frame

@[expose] public section

noncomputable section

namespace Cert.Kernel.Max

open Idealize.ShloMosaic Idealize.ShloMosaic.TcCoe
open Idealize.SL.Sem

variable {F : FTy → Type} [FloatOps F]

/-- Every execution of the kernel from zero counters ends with each device's block as it was and every counter zero. -/
theorem run_all (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD, r.2.mem ((c.tc : Thread Cert.Kernel.nD Cert.Kernel.τ).loc Cert.Kernel.main_arg0)
          = m ((c.tc : Thread Cert.Kernel.nD Cert.Kernel.τ).loc Cert.Kernel.main_arg0)) ∧ r.2.sem = fun _ => 0) :=
  (θ_run (Cert.KernelIdeal.defs (F := F)) (onTc (τ := Cert.KernelIdeal.τ) (Cert.KernelIdeal.main (F := F))) ⟨m, fun _ => 0, ρ⟩).mono
    (fun _ h => ⟨fun c => (h.1 c).1, h.2⟩) (Cert.KernelIdeal.Max.run_all (F := F) m ρ)

end Cert.Kernel.Max

end
-- ==== Proof.Ideal.Reference.lean ====
/-
# The reference's executions

The reference is three operations on whole arrays, on one device: the word of −∞, the maximum of each column from it, and
that row of maxima given a leading axis of size one. Every execution ends with the array of results at `value` of the array
it was launched with, and with that array as it was.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Max

open Cert.ReferenceIdeal Cert.ReferenceIdeal.Gen
open Idealize.ShloMosaic Idealize.ShloMosaic.TcCoe Idealize.ShloMosaic.StableHlo
open Idealize.SL.Sem

variable {F : FTy → Type} [FloatOps F]

/-- The maximum of each column, as a row. -/
def value (x : FVec F S4096x256 .f32) : FVec F S1x256 .f32 :=
  broadcastInDim S1x256 ![1] bcast_S256_S1x256_1
    (Host.reduce FloatOps.maximumf x (constant S_ .f32 0xFF800000#32) reducesTo_S4096x256_S256_d0 h_S_)

/-- The three operations. -/
abbrev steps : List (HloOp τ sig (Elt F)) :=
  [ nullary main_cst (constant S_ .f32 0xFF800000#32),
    binary main_arg0 main_cst main_v0 (fun x v => Host.reduce FloatOps.maximumf x v reducesTo_S4096x256_S256_d0 h_S_),
    unary main_v0 main_v1 (broadcastInDim S1x256 ![1] bcast_S256_S1x256_1) ]

theorem main_steps (c : Dev nD) : main (F := F) c = seq steps := rfl

/-- What the three leave in the array of results. -/
theorem after_value (V : Valuation τ sig (Elt F)) :
    after steps V (main_v1 : DevRef τ sig) = value (V (main_arg0 : DevRef τ sig)) := by
  after_results
  rfl

/-- None of them writes the argument. -/
theorem after_arg (V : Valuation τ sig (Elt F)) :
    after steps V (main_arg0 : DevRef τ sig) = V (main_arg0 : DevRef τ sig) := by
  after_results

theorem no_scoped_refs : (Finset.univ.filter fun b : Ref sig .tc => b.isScoped) = ∅ := by decide

theorem no_scoped_sems : (Finset.univ.filter fun s : SemLoc sig => s.isScoped .tc) = ∅ := by decide

theorem steps_refs : (steps : List (HloOp τ sig (Elt F))).Forall fun op => op.bufs ⊆ tcRefs τ sig :=
  ⟨nullary_bufs_sub .., binary_bufs_sub .., unary_bufs_sub ..⟩

/-- Every execution ends, with the results at `value` of the argument, the argument as it was, and (there being none) every
    counter zero. -/
theorem run_all (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_v1) = value (m ((c.tc : Thread nD τ).loc main_arg0)))
      ∧ r.2.sem = fun _ => 0) :=
  (θ_run defs _ _).mono
    (fun r h => ⟨fun c => ⟨(h c main_arg0).trans (after_arg _), (h c main_v1).trans (after_value _)⟩,
      sem_eq_zero_of_no_sems rfl r.2⟩)
    (run_seq no_scoped_refs no_scoped_sems defs main (fun _ => steps) main_steps (fun _ => steps_refs) m ρ)

end Cert.ReferenceIdeal.Max

end
-- ==== Proof.Ideal.Value.lean ====
/-
# The value

Over the extended reals the kernel's result is the reference's. Each is a maximum from −∞ over the same numbers: the kernel's
over eight devices of the maximum over a device's 512 rows, the reference's over 4096 rows, row `512 k + r` of the whole array
being row `r` of device `k`'s block. Two maxima are equal when the same numbers are above both, and a number is above either
one exactly when it is above −∞ and above each entry of the column.
-/
module

public import proofs.«01_k».proof.Proof.Ideal.Rows
public import proofs.«01_k».proof.Proof.Ideal.Reference
public import Idealize.ShloMosaic.Lib.Pipeline.Value
public import Idealize.ShloMosaic.Lib.Layout
public import Idealize.ShloMosaic.Lib.Pointwise.Reduce
public import Idealize.ShloMosaic.PureOps.Ideal.Laws

@[expose] public section

noncomputable section

namespace Cert.KernelIdeal.Max

open Cert.KernelIdeal Cert.KernelIdeal.Gen
open Idealize.ShloMosaic Idealize.ShloMosaic.TcCoe

/-- What every maximum here starts from. -/
abbrev low : Ideal .f32 := FloatOps.ofBits .f32 0xFF800000#32

/-- A vector of 256 as a row. -/
theorem row_at (w : FVec Ideal S256 .f32) (i : S1x256.Idx) : shapeCast S1x256 w shapeCasts_S256_S1x256 i = w (ix1 (i 1)) := by
  refine (shapeCast_addUnit_apply (n := 1) ![256] w shapeCasts_S256_S1x256 i).trans (congrArg w (funext fun a => ?_))
  match a with
  | ⟨0, _⟩ => rfl

/-- A row as a buffer of one row. -/
theorem one_row_at (w : FVec Ideal S1x256 .f32) (j : S1x1x256.Idx) :
    shapeCast S1x1x256 w shapeCasts_S1x256_S1x1x256 j = w (ix2 (j 1) (j 2)) := by
  refine (shapeCast_addUnit_apply (n := 2) ![1, 256] w shapeCasts_S1x256_S1x1x256 j).trans (congrArg w (funext fun a => ?_))
  match a with
  | ⟨0, _⟩ => rfl
  | ⟨1, _⟩ => rfl

/-- A device's partial maximum, in column `q`, is at most `z` when each of its rows' entries there is. -/
theorem partial_le (v : FVec Ideal S512x256 .f32) (p : Fin 1) (q : Fin 256) (z : Ideal .f32) :
    (k0_pay9 v : FVec Ideal S1x256 .f32) (ix2 p q) ≤ z ↔ low ≤ z ∧ ∀ r : Fin 512, v (ix2 r q) ≤ z := by
  have h : (k0_pay9 v : FVec Ideal S1x256 .f32) (ix2 p q) = (Finset.univ : Finset (Fin 512)).fold max low (fun r => v (ix2 r q)) := by
    unfold k0_pay9
    rw [row_at]
    refine (multiReduction_maximumf_eq_fold v _ reduces_S512x256_S256 (.inl rfl) rfl _).trans ?_
    exact Shape.Reduces.fold_fiber_r2_a0 reduces_S512x256_S256 _ _ _ _
  rw [h, Finset.fold_max_le]
  simp

/-- The maximum of eight rows, in column `q`, is at most `z` when each row's entry there is. -/
theorem total_le (v : FVec Ideal S8x1x256 .f32) (p : Fin 1) (q : Fin 256) (z : Ideal .f32) :
    (k0_pay10 v : FVec Ideal S1x256 .f32) (ix2 p q) ≤ z ↔ low ≤ z ∧ ∀ k : Fin 8, v (ix3 k p q) ≤ z := by
  have h : (k0_pay10 v : FVec Ideal S1x256 .f32) (ix2 p q) = (Finset.univ : Finset (Fin 8)).fold max low (fun k => v (ix3 k p q)) := by
    unfold k0_pay10
    rw [shapeCast_self]
    refine (multiReduction_maximumf_eq_fold v _ reduces_S8x1x256_S1x256 (.inl rfl) rfl _).trans ?_
    exact Shape.Reduces.fold_fiber_r3_a0 reduces_S8x1x256_S1x256 _ _ _ _
  rw [h, Finset.fold_max_le]
  simp

/-- The reference's result, in column `q`, is at most `z` when each of the 4096 entries there is. -/
theorem value_le (x : FVec Ideal Cert.ReferenceIdeal.S4096x256 .f32) (p : Fin 1) (q : Fin 256) (z : Ideal .f32) :
    Cert.ReferenceIdeal.Max.value x (ix2 p q) ≤ z ↔ low ≤ z ∧ ∀ n : Fin 4096, x (ix2 n q) ≤ z := by
  have h : Cert.ReferenceIdeal.Max.value x (ix2 p q) = (Finset.univ : Finset (Fin 4096)).fold max low (fun n => x (ix2 n q)) := by
    refine (broadcastInDim_apply _ _ _ (ix2 p q) (ix1 q) (fun a => ?_)).trans ?_
    · match a with | ⟨0, _⟩ => rfl
    · refine (Host.reduce_eq_fold FloatOps.maximumf x _ _ _ _).trans ?_
      exact Shape.ReducesTo.fold_fiber_r2_a0 _ _ _ _ _
  rw [h, Finset.fold_max_le]
  simp

variable (m : (ℓ : Loc nD τ sig) → Buf (Elt Ideal) ℓ)

/-- The full buffer of rows, as an array of numbers. -/
abbrev allRows : FVec Ideal S8x1x256 .f32 := rows m

/-- Row `k` of the full buffer of rows is device `k`'s partial maximum. -/
theorem rows_at (k : Fin 8) (p : Fin 1) (q : Fin 256) :
    allRows m (ix3 k p q) = (k0_pay9 (block m k) : FVec Ideal S1x256 .f32) (ix2 p q) := by
  show k0_pay1 (k0_pay9 (block m k)) (inRow (ix3 k p q)) = _
  unfold k0_pay1
  rw [one_row_at]
  rfl

/-- When the devices hold the eight blocks of `x`, row by row, the kernel's result is the reference's. -/
theorem result_eq (x : FVec Ideal Cert.ReferenceIdeal.S4096x256 .f32)
    (hx : ∀ k : Dev nD, block m k = Layout.block S512x256 Cert.ReferenceIdeal.S4096x256 0 8 k x) :
    result m = Cert.ReferenceIdeal.Max.value x := by
  have hb (k : Fin 8) (r : Fin 512) (q : Fin 256) :
      (block m k : FVec Ideal S512x256 .f32) (ix2 r q) = x (ix2 ⟨512 * k.val + r.val, by omega⟩ q) := by
    rw [hx k, Layout.block_apply]
    refine congrArg x (funext fun a => Fin.ext ?_)
    match a with
    | ⟨0, _⟩ => exact congrArg (· + r.val) (Nat.mul_comm k.val 512)
    | ⟨1, _⟩ => rfl
  have hp (k : Fin 8) (p : Fin 1) (q : Fin 256) (z : Ideal .f32) (hz : low ≤ z) :
      allRows m (ix3 k p q) ≤ z
        ↔ ∀ r : Fin 512, x (ix2 ⟨512 * k.val + r.val, by omega⟩ q) ≤ z := by
    rw [rows_at]
    refine (partial_le (block m k) p q z).trans ((and_iff_right hz).trans (forall_congr' fun r => ?_))
    rw [hb]
  have he (p : Fin 1) (q : Fin 256) :
      (result m : FVec Ideal S1x256 .f32) (ix2 p q) = Cert.ReferenceIdeal.Max.value x (ix2 p q) := by
    refine eq_of_forall_ge_iff (α := Ideal .f32) fun z => ?_
    refine (total_le (rows m) p q z).trans (Iff.trans ?_ (value_le x p q z).symm)
    refine and_congr_right fun hz => (forall_congr' fun k => hp k p q z hz).trans (Iff.intro ?_ fun h k r => h _)
    intro h n
    have e : (⟨512 * (n.val / 512) + n.val % 512, by omega⟩ : Fin 4096) = n := Fin.ext (Nat.div_add_mod n.val 512)
    exact e ▸ h ⟨n.val / 512, by omega⟩ ⟨n.val % 512, by omega⟩
  funext i
  have hi : i = ix2 (n0 := 1) (n1 := 256) (i 0) (i 1) := eq_ix2 i
  rw [hi]
  exact he _ _

end Cert.KernelIdeal.Max

end
-- ==== Proof.lean ====
/-
# The claims

The kernel, as compiled and over the extended reals, ends from every launch with its argument as it was and every counter
zero; so does the reference; the idealization replaced nothing; and over the extended reals, when the eight devices hold the
eight blocks of the reference's argument, every device ends with the reference's result.
-/
module

public import proofs.«01_k».proof.Defs
public import proofs.«01_k».proof.Proof.Float.Run
public import proofs.«01_k».proof.Proof.Ideal.Launch
public import proofs.«01_k».proof.Proof.Ideal.Value

@[expose] public section

noncomputable section

namespace Cert.Proof

open Idealize.ShloMosaic Idealize.SL.Sem

theorem frame_kernel : Cert.quiescent_Kernel (hKernel := Cert.Kernel.Gen.facts) :=
  fun m g _ => Cert.Kernel.Max.run_all m g

theorem frame_ideal : Cert.quiescent_KernelIdeal (hKernelIdeal := Cert.KernelIdeal.Gen.facts) := fun m g _ =>
  (θ_run (Cert.KernelIdeal.defs (F := Ideal)) _ _).mono (fun _ h => ⟨fun c => (h.1 c).1, h.2⟩) (Cert.KernelIdeal.Max.run_all m g)

theorem frame_reference : Cert.quiescent_ReferenceIdeal (hReferenceIdeal := Cert.ReferenceIdeal.Gen.facts) := fun m g _ =>
  (θ_run (Cert.ReferenceIdeal.defs (F := Ideal)) _ _).mono (fun _ h => ⟨fun c => (h.1 c).1, h.2⟩)
    (Cert.ReferenceIdeal.Max.run_all m g)

theorem same_value : Cert.algebraic_KernelIdeal_ReferenceIdeal (hKernelIdeal := Cert.KernelIdeal.Gen.facts)
    (hReferenceIdeal := Cert.ReferenceIdeal.Gen.facts) := fun m g m' g' _ hx =>
  ⟨Cert.KernelIdeal.Max.result m,
    (θ_run (Cert.KernelIdeal.defs (F := Ideal)) _ _).mono (fun _ h c => ⟨(h.1 c).2, (h.1 c).1⟩) (Cert.KernelIdeal.Max.run_all m g),
    (θ_run (Cert.ReferenceIdeal.defs (F := Ideal)) _ _).mono
      (fun _ h => ⟨(h.1 0).2.trans (Cert.KernelIdeal.Max.result_eq m _ hx).symm, (h.1 0).1⟩) (Cert.ReferenceIdeal.Max.run_all m' g')⟩

theorem claim : Cert.Claim :=
  ⟨Cert.Kernel.Gen.facts, Cert.KernelIdeal.Gen.facts, Cert.ReferenceIdeal.Gen.facts,
    frame_kernel, frame_ideal, frame_reference, trivial, same_value⟩

end Cert.Proof

end
